-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![768, 384]⟩ ⟨2, ![768, 768]⟩ (Layout.meshBlock [2, 2] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![384, 768]⟩ ⟨2, ![768, 768]⟩ (Layout.meshBlock [2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x384 : Shape := ⟨2, ![768, 384]⟩
abbrev S384x768 : Shape := ⟨2, ![384, 768]⟩
abbrev S768x768 : Shape := ⟨2, ![768, 768]⟩
abbrev S384x384 : Shape := ⟨2, ![384, 384]⟩
abbrev S8 : Shape := ⟨1, ![8]⟩
abbrev S_ : Shape := ⟨0, ![]⟩
abbrev S48x384 : Shape := ⟨2, ![48, 384]⟩
abbrev S48x768 : Shape := ⟨2, ![48, 768]⟩
abbrev S1 : Shape := ⟨1, ![1]⟩

abbrev nBuf : Space → Nat
  | .hbm => 3
  | .vmem => 10
  | .smem => 0
  | _ => 0

abbrev bufTy : (tb : Table) → Fin (tcTables nBuf tb) → BufTy
  | .hbm, ⟨0, _⟩ => ⟨S768x384, .f32⟩
  | .hbm, ⟨1, _⟩ => ⟨S384x768, .f32⟩
  | .hbm, ⟨2, _⟩ => ⟨S768x768, .f32⟩
  | .local _ .vmem, ⟨0, _⟩ => ⟨S768x384, .f32⟩
  | .local _ .vmem, ⟨1, _⟩ => ⟨S384x768, .f32⟩
  | .local _ .vmem, ⟨2, _⟩ => ⟨S768x768, .f32⟩
  | .local _ .vmem, ⟨3, _⟩ => ⟨S384x384, .bf16⟩
  | .local _ .vmem, ⟨4, _⟩ => ⟨S384x768, .bf16⟩
  | .local _ .vmem, ⟨5, _⟩ => ⟨S384x768, .f32⟩
  | .local _ .vmem, ⟨6, _⟩ => ⟨S384x768, .bf16⟩
  | .local _ .vmem, ⟨7, _⟩ => ⟨S384x768, .bf16⟩
  | .local _ .vmem, ⟨8, _⟩ => ⟨S384x768, .bf16⟩
  | .local _ .vmem, ⟨9, _⟩ => ⟨S384x768, .bf16⟩
  | _, _ => ⟨S768x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c384_i32 : BitVec 32 := 384#32
  let v17 : BitVec 32 := Scalar.muli v5 c384_i32
  let v18 : Index := Scalar.indexCast v17
  let c0 : Index := 0#32
  ![v18.toNat, 0]
def k0_dev3 (d0 : Dev nD) : Nat :=
  let c0_i32_29 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_28 : BitVec 32 := 2#32
  let v41 : BitVec 32 := Scalar.muli v6 c2_i32_28
  let v42 : BitVec 32 := Scalar.addi c0_i32_29 v41
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_30 : BitVec 32 := 1#32
  let v43 : BitVec 32 := Scalar.muli v5 c1_i32_30
  let v44 : BitVec 32 := Scalar.addi v42 v43
  v44.toNat
def k0_dev4 (d0 : Dev nD) : Nat :=
  let c0_i32_46 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_45 : BitVec 32 := 2#32
  let v61 : BitVec 32 := Scalar.muli v6 c2_i32_45
  let v62 : BitVec 32 := Scalar.addi c0_i32_46 v61
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_47 : BitVec 32 := 1#32
  let v63 : BitVec 32 := Scalar.muli v5 c1_i32_47
  let v64 : BitVec 32 := Scalar.addi v62 v63
  v64.toNat
def k0_dev5 (d0 : Dev nD) : Nat :=
  let c0_i32_62 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_61 : BitVec 32 := 2#32
  let v81 : BitVec 32 := Scalar.muli v6 c2_i32_61
  let v82 : BitVec 32 := Scalar.addi c0_i32_62 v81
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_63 : BitVec 32 := 1#32
  let v83 : BitVec 32 := Scalar.muli v5 c1_i32_63
  let v84 : BitVec 32 := Scalar.addi v82 v83
  v84.toNat
def k0_dev6 (d0 : Dev nD) : Nat :=
  let c0_i32_77 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_76 : BitVec 32 := 2#32
  let v101 : BitVec 32 := Scalar.muli v6 c2_i32_76
  let v102 : BitVec 32 := Scalar.addi c0_i32_77 v101
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_78 : BitVec 32 := 1#32
  let v103 : BitVec 32 := Scalar.muli v5 c1_i32_78
  let v104 : BitVec 32 := Scalar.addi v102 v103
  v104.toNat
def k0_off2 (d0 : Dev nD) (c0_i32_102 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c384_i32 : BitVec 32 := 384#32
  let v17 : BitVec 32 := Scalar.muli v5 c384_i32
  let v127 : BitVec 32 := Scalar.addi v17 c0_i32_102
  let v128 : Index := Scalar.indexCast v127
  let c0_103 : Index := 0#32
  ![v128.toNat, 0]
def k0_dev7 (d0 : Dev nD) : Nat :=
  let c0_i32_109 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_108 : BitVec 32 := 2#32
  let v134 : BitVec 32 := Scalar.muli v2 c2_i32_108
  let v135 : BitVec 32 := Scalar.addi c0_i32_109 v134
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_110 : BitVec 32 := 1#32
  let v136 : BitVec 32 := Scalar.muli v7 c1_i32_110
  let v137 : BitVec 32 := Scalar.addi v135 v136
  v137.toNat
def k0_dev8 (d0 : Dev nD) : Nat :=
  let c0_i32_125 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_124 : BitVec 32 := 2#32
  let v154 : BitVec 32 := Scalar.muli v6 c2_i32_124
  let v155 : BitVec 32 := Scalar.addi c0_i32_125 v154
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_126 : BitVec 32 := 1#32
  let v156 : BitVec 32 := Scalar.muli v5 c1_i32_126
  let v157 : BitVec 32 := Scalar.addi v155 v156
  v157.toNat
def k0_dev9 (d0 : Dev nD) : Nat :=
  let c0_i32_157 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_156 : BitVec 32 := 2#32
  let v187 : BitVec 32 := Scalar.muli v2 c2_i32_156
  let v188 : BitVec 32 := Scalar.addi c0_i32_157 v187
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_158 : BitVec 32 := 1#32
  let v189 : BitVec 32 := Scalar.muli v7 c1_i32_158
  let v190 : BitVec 32 := Scalar.addi v188 v189
  v190.toNat
def k0_dev10 (d0 : Dev nD) : Nat :=
  let c0_i32_173 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_172 : BitVec 32 := 2#32
  let v207 : BitVec 32 := Scalar.muli v6 c2_i32_172
  let v208 : BitVec 32 := Scalar.addi c0_i32_173 v207
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_174 : BitVec 32 := 1#32
  let v209 : BitVec 32 := Scalar.muli v5 c1_i32_174
  let v210 : BitVec 32 := Scalar.addi v208 v209
  v210.toNat
def k0_dev11 (d0 : Dev nD) : Nat :=
  let c0_i32_205 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_204 : BitVec 32 := 2#32
  let v240 : BitVec 32 := Scalar.muli v2 c2_i32_204
  let v241 : BitVec 32 := Scalar.addi c0_i32_205 v240
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_206 : BitVec 32 := 1#32
  let v242 : BitVec 32 := Scalar.muli v7 c1_i32_206
  let v243 : BitVec 32 := Scalar.addi v241 v242
  v243.toNat
def k0_dev12 (d0 : Dev nD) : Nat :=
  let c0_i32_221 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_220 : BitVec 32 := 2#32
  let v260 : BitVec 32 := Scalar.muli v6 c2_i32_220
  let v261 : BitVec 32 := Scalar.addi c0_i32_221 v260
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_222 : BitVec 32 := 1#32
  let v262 : BitVec 32 := Scalar.muli v5 c1_i32_222
  let v263 : BitVec 32 := Scalar.addi v261 v262
  v263.toNat
def k0_dev13 (d0 : Dev nD) : Nat :=
  let c0_i32_253 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_252 : BitVec 32 := 2#32
  let v293 : BitVec 32 := Scalar.muli v2 c2_i32_252
  let v294 : BitVec 32 := Scalar.addi c0_i32_253 v293
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_254 : BitVec 32 := 1#32
  let v295 : BitVec 32 := Scalar.muli v7 c1_i32_254
  let v296 : BitVec 32 := Scalar.addi v294 v295
  v296.toNat
def k0_dev14 (d0 : Dev nD) : Nat :=
  let c0_i32_269 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_268 : BitVec 32 := 2#32
  let v313 : BitVec 32 := Scalar.muli v6 c2_i32_268
  let v314 : BitVec 32 := Scalar.addi c0_i32_269 v313
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_270 : BitVec 32 := 1#32
  let v315 : BitVec 32 := Scalar.muli v5 c1_i32_270
  let v316 : BitVec 32 := Scalar.addi v314 v315
  v316.toNat
def k0_dev15 (d0 : Dev nD) : Nat :=
  let c0_i32_301 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_300 : BitVec 32 := 2#32
  let v346 : BitVec 32 := Scalar.muli v2 c2_i32_300
  let v347 : BitVec 32 := Scalar.addi c0_i32_301 v346
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_302 : BitVec 32 := 1#32
  let v348 : BitVec 32 := Scalar.muli v7 c1_i32_302
  let v349 : BitVec 32 := Scalar.addi v347 v348
  v349.toNat
def k0_dev16 (d0 : Dev nD) : Nat :=
  let c0_i32_334 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_333 : BitVec 32 := 2#32
  let v379 : BitVec 32 := Scalar.muli v2 c2_i32_333
  let v380 : BitVec 32 := Scalar.addi c0_i32_334 v379
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_335 : BitVec 32 := 1#32
  let v381 : BitVec 32 := Scalar.muli v7 c1_i32_335
  let v382 : BitVec 32 := Scalar.addi v380 v381
  v382.toNat
def k0_dev17 (d0 : Dev nD) : Nat :=
  let c0_i32_367 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_366 : BitVec 32 := 2#32
  let v412 : BitVec 32 := Scalar.muli v2 c2_i32_366
  let v413 : BitVec 32 := Scalar.addi c0_i32_367 v412
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_368 : BitVec 32 := 1#32
  let v414 : BitVec 32 := Scalar.muli v7 c1_i32_368
  let v415 : BitVec 32 := Scalar.addi v413 v414
  v415.toNat
def k0_dev18 (d0 : Dev nD) : Nat :=
  let c0_i32_400 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_399 : BitVec 32 := 2#32
  let v445 : BitVec 32 := Scalar.muli v2 c2_i32_399
  let v446 : BitVec 32 := Scalar.addi c0_i32_400 v445
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_401 : BitVec 32 := 1#32
  let v447 : BitVec 32 := Scalar.muli v7 c1_i32_401
  let v448 : BitVec 32 := Scalar.addi v446 v447
  v448.toNat
def k0_off3 (d0 : Dev nD) (c0_i32_426 : BitVec 32) : Fin 2 → Nat :=
  let c1_i32_424 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v469 : BitVec 32 := Scalar.subi c1_i32_424 v5
  let c384_i32_425 : BitVec 32 := 384#32
  let v470 : BitVec 32 := Scalar.muli v469 c384_i32_425
  let v471 : BitVec 32 := Scalar.addi v470 c0_i32_426
  let v472 : Index := Scalar.indexCast v471
  let c0_427 : Index := 0#32
  ![v472.toNat, 0]
abbrev stage0_0 : Fin 1 → Memref sig .tc .vmem S768x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S768x768 : Shape := ⟨2, ![768, 768]⟩

abbrev nBuf : Space → Nat
  | .hbm => 3
  | .vmem => 0
  | .smem => 0
  | _ => 0

abbrev bufTy : (tb : Table) → Fin (tcTables nBuf tb) → BufTy
  | .hbm, ⟨0, _⟩ => ⟨S768x768, .f32⟩
  | .hbm, ⟨1, _⟩ => ⟨S768x768, .f32⟩
  | .hbm, ⟨2, _⟩ => ⟨S768x768, .f32⟩
  | _, _ => ⟨S768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Steps.lean ====
/- The kernel's body as a list of uniform steps.

   The printed body runs, for each of the eight chunks of 48 rows, five kinds of step: the chunk's product
   (`compute`), the start of its exchange along the mesh's first axis (`xstart`), the wait for that exchange
   (`xwait`), the sum of the two partial products and the start of the exchange along the second axis (`finish`), and
   the wait for that one with the copy of the arrived rows into the result (`ywait`). Here each kind is one program
   over a chunk number, and the printed body is the prelude followed by the steps in their order. -/
module

public import proofs.«01_k».proof.Proof.Gen.KernelIdeal.Frame
public import proofs.«01_k».proof.Proof.Gen.KernelIdeal.Skeleton

@[expose] public section

noncomputable section

namespace Cert.KernelIdeal.MM

open Idealize.ShloMosaic Idealize.ShloMosaic.TcCoe
open Idealize.SL Idealize.SL.Sem
open Cert.KernelIdeal.Gen

variable {F : FTy → Type} [FloatOps F]

/-! ## The chunks' rectangles -/

/-- Chunk `c` of a 384-row buffer, 48 rows of 768, lies inside it. -/
theorem chunk_inb : ∀ (c : Fin 8) (a : Fin 2), (![48 * c.val, 0] : Fin 2 → Nat) a + S48x768.size a ≤ S384x768.size a := by
  decide
/-- Chunk `c` of the staged left operand, 48 rows of 384, lies inside it. -/
theorem lchunk_inb : ∀ (c : Fin 8) (a : Fin 2), (![48 * c.val, 0] : Fin 2 → Nat) a + S48x384.size a ≤ S384x384.size a := by
  decide
/-- Position `c` of a row of eight semaphores is one of them. -/
theorem sem_inb : ∀ (c : Fin 8) (a : Fin 1), (![c.val] : Fin 1 → Nat) a + S1.size a ≤ S8.size a := by
  decide

/-- Chunk `c` of a buffer of 384 rows of 768. -/
abbrev chunk (c : Fin 8) : Rect S384x768 := Rect.unit (s := S384x768) ![48 * c.val, 0] S48x768.size (chunk_inb c)
/-- Chunk `c` of the left operand's 384 rows. -/
abbrev lchunk (c : Fin 8) : Rect S384x384 := Rect.unit (s := S384x384) ![48 * c.val, 0] S48x384.size (lchunk_inb c)
/-- The rows of the result device `d` sums itself, chunk `c`. -/
abbrev own (d : Dev nD) (c : Fin 8) : Rect S768x768 :=
  Rect.unit (s := S768x768) (k0_off2 d (BitVec.ofNat 32 (48 * c.val))) S48x768.size (k0_off2_inb d c)
/-- The rows of the result device `d` receives, chunk `c`. -/
abbrev oth (d : Dev nD) (c : Fin 8) : Rect S768x768 :=
  Rect.unit (s := S768x768) (k0_off3 d (BitVec.ofNat 32 (48 * c.val))) S48x768.size (k0_off3_inb d c)
/-- The rows of its block of `A` device `d` multiplies. -/
abbrev arows (d : Dev nD) : Rect S768x384 := Rect.unit (s := S768x384) (k0_off1 d) S384x384.size (k0_off1_inb d)
/-- The whole of the staged left operand, and of the staged right one. -/
abbrev lall : Rect S384x384 := Rect.unit (s := S384x384) ![0, 0] S384x384.size inb_S384x384_S384x384_0_0
abbrev rall : Rect S384x768 := Rect.unit (s := S384x768) ![0, 0] S384x768.size inb_S384x768_S384x768_0_0

/-- A chunk's rows are packed rows of a sixteen-bit buffer, -/
theorem chunk_packed : ∀ c : Fin 8, (chunk c).PackedRows (EltTy.packing .bf16)
  | 0 => packedbf16_S384x768_S48x768_0_0 | 1 => packedbf16_S384x768_S48x768_48_0
  | 2 => packedbf16_S384x768_S48x768_96_0 | 3 => packedbf16_S384x768_S48x768_144_0
  | 4 => packedbf16_S384x768_S48x768_192_0 | 5 => packedbf16_S384x768_S48x768_240_0
  | 6 => packedbf16_S384x768_S48x768_288_0 | 7 => packedbf16_S384x768_S48x768_336_0
/-- and whole words of it. -/
theorem chunk_words : ∀ c : Fin 8, (chunk c).WholeWords (EltTy.packing .bf16)
  | 0 => wordsbf16_S384x768_S48x768_0_0 | 1 => wordsbf16_S384x768_S48x768_48_0
  | 2 => wordsbf16_S384x768_S48x768_96_0 | 3 => wordsbf16_S384x768_S48x768_144_0
  | 4 => wordsbf16_S384x768_S48x768_192_0 | 5 => wordsbf16_S384x768_S48x768_240_0
  | 6 => wordsbf16_S384x768_S48x768_288_0 | 7 => wordsbf16_S384x768_S48x768_336_0

/-! ## The buffers and the semaphores -/

abbrev mA : Memref sig .tc .vmem S768x384 .f32 := Memref.whole cc0_stg0_0
abbrev mB : Memref sig .tc .vmem S384x768 .f32 := Memref.whole cc0_stg1_0
abbrev mO : Memref sig .tc .vmem S768x768 .f32 := Memref.whole cc0_stg2_0
abbrev mL : Memref sig .tc .vmem S384x384 .bf16 := Memref.whole cc0_scratch0
abbrev mR : Memref sig .tc .vmem S384x768 .bf16 := Memref.whole cc0_scratch1
abbrev mAcc : Memref sig .tc .vmem S384x768 .f32 := Memref.whole cc0_scratch2

/-- The two directions of exchange: `false` along the mesh's first axis, `true` along its second. `snd a` is the
    buffer sent from along `a`, `rcv a` the one received into. -/
abbrev sndRef : Bool → Ref sig .tc | false => cc0_scratch3 | true => cc0_scratch5
abbrev rcvRef : Bool → Ref sig .tc | false => cc0_scratch4 | true => cc0_scratch6
abbrev snd : Bool → Memref sig .tc .vmem S384x768 .bf16 | false => Memref.whole cc0_scratch3 | true => Memref.whole cc0_scratch5
abbrev rcv : Bool → Memref sig .tc .vmem S384x768 .bf16 | false => Memref.whole cc0_scratch4 | true => Memref.whole cc0_scratch6
/-- Their semaphores: of the departures and of the arrivals. -/
abbrev sndSems : Bool → DmaSems sig S8 | false => cc0_scratch7 | true => cc0_scratch9
abbrev rcvSems : Bool → DmaSems sig S8 | false => cc0_scratch8 | true => cc0_scratch10

theorem snd_whole : ∀ a, (snd a).IsWhole | false => Memref.isWhole_whole _ | true => Memref.isWhole_whole _
theorem rcv_whole : ∀ a, (rcv a).IsWhole | false => Memref.isWhole_whole _ | true => Memref.isWhole_whole _

/-- Chunk `c` of the buffers of direction `a`, and the chunk's semaphores. -/
abbrev sndC (a : Bool) (c : Fin 8) : Memref sig .tc .vmem S48x768 .bf16 := (snd a).slice (chunk c) (fun _ => rfl)
abbrev rcvC (a : Bool) (c : Fin 8) : Memref sig .tc .vmem S48x768 .bf16 := (rcv a).slice (chunk c) (fun _ => rfl)
abbrev sndSem (a : Bool) (c : Fin 8) : DmaSem sig :=
  (((sndSems a).slice (Rect.unit (s := S8) ![c.val] S1.size (sem_inb c))).squeeze S_ squeezes_S1_S_).sem
abbrev rcvSem (a : Bool) (c : Fin 8) : DmaSem sig :=
  (((rcvSems a).slice (Rect.unit (s := S8) ![c.val] S1.size (sem_inb c))).squeeze S_ squeezes_S1_S_).sem

theorem sndC_words (a : Bool) (c : Fin 8) : (sndC a c).view.WordExact := (snd_whole a).wordExact_slice rfl _ (chunk_words c)
theorem rcvC_words (a : Bool) (c : Fin 8) : (rcvC a c).view.WordExact := (rcv_whole a).wordExact_slice rfl _ (chunk_words c)

/-- The runtime's barrier semaphore. -/
abbrev barSem : Sem sig := sig.barrier 0 rfl

/-! ## The neighbours, as the program computes them -/

/-- The neighbour chunk `c` is sent to along direction `a`, as the program's own arithmetic gives it. -/
abbrev tgt (d : Dev nD) : Bool → Fin 8 → Dev nD
  | false, 0 => ⟨k0_dev3 d, k0_dev3_lt d⟩ | false, 1 => ⟨k0_dev4 d, k0_dev4_lt d⟩
  | false, 2 => ⟨k0_dev5 d, k0_dev5_lt d⟩ | false, 3 => ⟨k0_dev6 d, k0_dev6_lt d⟩
  | false, 4 => ⟨k0_dev8 d, k0_dev8_lt d⟩ | false, 5 => ⟨k0_dev10 d, k0_dev10_lt d⟩
  | false, 6 => ⟨k0_dev12 d, k0_dev12_lt d⟩ | false, 7 => ⟨k0_dev14 d, k0_dev14_lt d⟩
  | true, 0 => ⟨k0_dev7 d, k0_dev7_lt d⟩ | true, 1 => ⟨k0_dev9 d, k0_dev9_lt d⟩
  | true, 2 => ⟨k0_dev11 d, k0_dev11_lt d⟩ | true, 3 => ⟨k0_dev13 d, k0_dev13_lt d⟩
  | true, 4 => ⟨k0_dev15 d, k0_dev15_lt d⟩ | true, 5 => ⟨k0_dev16 d, k0_dev16_lt d⟩
  | true, 6 => ⟨k0_dev17 d, k0_dev17_lt d⟩ | true, 7 => ⟨k0_dev18 d, k0_dev18_lt d⟩

/-! ## The steps -/

/-- The programs of the body. -/
abbrev PG (F : FTy → Type) [FloatOps F] := Prog (TpuEff nD τ sig (Elt F) Λ₀ .tc) PUnit

/-- Chunk `c`'s partial product, stored as the accumulator's rows and, rounded, as the rows to send. -/
def compute (c : Fin 8) : PG F := do
  let v31 : Vec F S48x384 .bf16 ← Prog.lift (.load mL (lchunk c).toLoadRect (View.loadsAt_vmem h_S48x384))
  let v32 : Vec F S384x768 .bf16 ← Prog.lift (.load mR rall.toLoadRect (View.loadsAt_vmem h_S384x768))
  let _ : Vec F S48x768 .f32 ← Prog.lift (.load mAcc (chunk c).toLoadRect (View.loadsAt_vmem h_S48x768))
  Prog.lift (.store mAcc (chunk c) (k0_pay4 v31 v32) Finset.univ (View.stores_vmem_bits_univ h_S48x768 rfl) (.inl rfl))
  let _ : Vec F S48x768 .bf16 ← Prog.lift (.load (snd false) (chunk c).toLoadRect (View.loadsAt_vmem h_S48x768))
  Prog.lift (.store (snd false) (chunk c) (k0_pay5 v31 v32) Finset.univ (View.stores_vmem h_S48x768 ((snd_whole false).storeExact_slice rfl _ (chunk_packed c)) (fun _ => rfl)) (.inl rfl))

/-- The start of chunk `c`'s transfer along direction `a`. -/
def start (d : Dev nD) (a : Bool) (c : Fin 8) : PG F :=
  Prog.lift (.enqueueDma (sndC a c) (.remote (Dev.tc (tgt d a c)) (rcvC a c) (.dma (sndSem a c))) (.dma (rcvSem a c)) (sndC_words a c) (rcvC_words a c) ⟨⟨rfl, Or.inl rfl⟩, trivial⟩)

/-- The wait for chunk `c`'s departure along `a` and for its arrival. -/
def await (a : Bool) (c : Fin 8) : PG F := do
  Prog.lift (.waitDma2 (sndSem a c) (rcvC a c) (sndC a c) (rcvC_words a c) (sndC_words a c))
  Prog.lift (.waitDma2 (rcvSem a c) (sndC a c) (rcvC a c) (sndC_words a c) (rcvC_words a c))

/-- Chunk `c`'s sum, stored as rows of the result and, rounded, as the rows to send. -/
def addUp (d : Dev nD) (c : Fin 8) : PG F := do
  let v123 : Vec F S48x768 .f32 ← Prog.lift (.load mAcc (chunk c).toLoadRect (View.loadsAt_vmem h_S48x768))
  let v124 : Vec F S48x768 .bf16 ← Prog.lift (.load (rcv false) (chunk c).toLoadRect (View.loadsAt_vmem h_S48x768))
  let _ : Vec F S48x768 .f32 ← Prog.lift (.load mO (own d c).toLoadRect (View.loadsAt_vmem h_S48x768))
  Prog.lift (.store mO (own d c) (k0_pay16 v123 v124) Finset.univ (View.stores_vmem_bits_univ h_S48x768 rfl) (.inl rfl))
  let _ : Vec F S48x768 .bf16 ← Prog.lift (.load (snd true) (chunk c).toLoadRect (View.loadsAt_vmem h_S48x768))
  Prog.lift (.store (snd true) (chunk c) (k0_pay17 v123 v124) Finset.univ (View.stores_vmem h_S48x768 ((snd_whole true).storeExact_slice rfl _ (chunk_packed c)) (fun _ => rfl)) (.inl rfl))

/-- Chunk `c` of the other half of the result, copied from the rows received. -/
def place (d : Dev nD) (c : Fin 8) : PG F := do
  let v467 : Vec F S48x768 .bf16 ← Prog.lift (.load (rcv true) (chunk c).toLoadRect (View.loadsAt_vmem h_S48x768))
  let _ : Vec F S48x768 .f32 ← Prog.lift (.load mO (oth d c).toLoadRect (View.loadsAt_vmem h_S48x768))
  Prog.lift (.store mO (oth d c) (k0_pay45 v467) Finset.univ (View.stores_vmem_bits_univ h_S48x768 rfl) (.inl rfl))

/-- The kinds of step. -/
inductive Step | compute | xstart | xwait | finish | ystart | ywait | place
  deriving DecidableEq

/-- A step's program. -/
def Step.prog (d : Dev nD) : Step → Fin 8 → PG F
  | .compute, c => MM.compute c
  | .xstart, c => start d false c
  | .xwait, c => await false c
  | .finish, c => addUp d c
  | .ystart, c => start d true c
  | .ywait, c => await true c
  | .place, c => MM.place d c

/-- A list of steps, run one after the other. -/
def run (d : Dev nD) : List (Step × Fin 8) → PG F
  | [] => pure ⟨⟩
  | s :: l => s.1.prog d s.2 >>= fun _ => run d l

/-- What precedes the steps: the barrier with both neighbours and the two operands' rounding. -/
def prelude (d : Dev nD) : PG F := do
  semSignalWord (⟨k0_dev1 d, k0_dev1_lt d⟩ : Dev nD) barSem 1#32
  semSignalWord (⟨k0_dev2 d, k0_dev2_lt d⟩ : Dev nD) barSem 1#32
  semWaitWord barSem 2#32
  let v19 : Vec F S384x384 .f32 ← Prog.lift (.load mA (arows d).toLoadRect (View.loadsAt_vmem h_S384x384))
  let _ : Vec F S384x384 .bf16 ← Prog.lift (.load mL lall.toLoadRect (View.loadsAt_vmem h_S384x384))
  Prog.lift (.store mL lall (k0_pay1 v19) Finset.univ (View.stores_vmem h_S384x384 ((Memref.isWhole_whole _).storeExact_slice rfl _ packedbf16_S384x384_S384x384_0_0) (fun _ => rfl)) (.inl rfl))
  let v25 : Vec F S384x768 .f32 ← Prog.lift (.load mB rall.toLoadRect (View.loadsAt_vmem h_S384x768))
  let _ : Vec F S384x768 .bf16 ← Prog.lift (.load mR rall.toLoadRect (View.loadsAt_vmem h_S384x768))
  Prog.lift (.store mR rall (k0_pay2 v25) Finset.univ (View.stores_vmem h_S384x768 ((Memref.isWhole_whole _).storeExact_slice rfl _ packedbf16_S384x768_S384x768_0_0) (fun _ => rfl)) (.inl rfl))

/-- The order of the steps. -/
def order : List (Step × Fin 8) :=
  [(.compute, 0), (.xstart, 0), (.compute, 1), (.xstart, 1), (.compute, 2), (.xstart, 2),
   (.compute, 3), (.xstart, 3), (.xwait, 0), (.finish, 0), (.ystart, 0),
   (.compute, 4), (.xstart, 4), (.xwait, 1), (.finish, 1), (.ystart, 1),
   (.compute, 5), (.xstart, 5), (.xwait, 2), (.finish, 2), (.ystart, 2),
   (.compute, 6), (.xstart, 6), (.xwait, 3), (.finish, 3), (.ystart, 3),
   (.compute, 7), (.xstart, 7), (.xwait, 4), (.finish, 4), (.ystart, 4),
   (.xwait, 5), (.finish, 5), (.ystart, 5), (.xwait, 6), (.finish, 6), (.ystart, 6),
   (.xwait, 7), (.finish, 7), (.ystart, 7),
   (.ywait, 0), (.place, 0), (.ywait, 1), (.place, 1), (.ywait, 2), (.place, 2), (.ywait, 3), (.place, 3),
   (.ywait, 4), (.place, 4), (.ywait, 5), (.place, 5), (.ywait, 6), (.place, 6), (.ywait, 7), (.place, 7)]

set_option maxRecDepth 100000 in
set_option maxHeartbeats 4000000 in
/-- The printed body is the prelude and then the steps in their order. -/
theorem body_eq : cc0_body (F := F) mA (Memref.isWhole_whole _) mB (Memref.isWhole_whole _) mO (Memref.isWhole_whole _)
      mL (Memref.isWhole_whole _) mR (Memref.isWhole_whole _) mAcc (Memref.isWhole_whole _)
      (snd false) (Memref.isWhole_whole _) (rcv false) (Memref.isWhole_whole _) (snd true) (Memref.isWhole_whole _)
      (rcv true) (Memref.isWhole_whole _) (sndSems false) (rcvSems false) (sndSems true) (rcvSems true)
    = (Prog.lift .deviceId >>= fun d => prelude d >>= fun _ => run d order) := by
  rfl

end Cert.KernelIdeal.MM

end
-- ==== Proof.Sched.lean ====
/- The exchange's protocol: the neighbours, the values carried, the semaphore cells and their schedule.

   The four devices form a square. Along direction `false` a device's neighbour is the one across the mesh's first
   axis, along `true` the one across the second; `peer` is that map, its own inverse. A device has 33 semaphore cells:
   the runtime's barrier, and for each direction and chunk one for the departure and one for the arrival. -/
module

public import proofs.«01_k».proof.Proof.Steps
public import Idealize.ShloMosaic.Lib.Pipeline.Launch
public import Idealize.ShloMosaic.Lib.Pipeline.Kit
public import Idealize.ShloMosaic.Lib.Rounds.Family

@[expose] public section

noncomputable section

namespace Cert.KernelIdeal.MM

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

/-! ## The neighbours -/

/-- The neighbour along a direction. -/
def peer (d : Dev nD) : Bool → Dev nD
  | false => ⟨(d.val % 2 + 2) - 2 * (d.val / 2), by have h : d.val < 4 := d.isLt; show _ < 4; omega⟩
  | true => ⟨(2 * (d.val / 2) + 1) - d.val % 2, by have h : d.val < 4 := d.isLt; show _ < 4; omega⟩

/-- A neighbour's neighbour is the device itself. -/
theorem peer_peer (d : Dev nD) (a : Bool) : peer (peer d a) a = d := by revert d a; decide

/-- The swap of neighbours along a direction, as a permutation of the devices. -/
def swap (a : Bool) : Dev nD ≃ Dev nD := ⟨fun d => peer d a, fun d => peer d a, fun d => peer_peer d a, fun d => peer_peer d a⟩

/-- The program's device numbers are the neighbours': the first signal's, the second's, -/
theorem dev1_eq (d : Dev nD) : (⟨k0_dev1 d, k0_dev1_lt d⟩ : Dev nD) = peer d false := Fin.ext (k0_dev1_eq d)
theorem dev2_eq (d : Dev nD) : (⟨k0_dev2 d, k0_dev2_lt d⟩ : Dev nD) = peer d true := Fin.ext (k0_dev2_eq d)
/-- and every transfer's. -/
theorem tgt_eq (d : Dev nD) : ∀ (a : Bool) (c : Fin 8), tgt d a c = peer d a
  | false, 0 => Fin.ext (k0_dev3_eq d) | false, 1 => Fin.ext (k0_dev4_eq d) | false, 2 => Fin.ext (k0_dev5_eq d)
  | false, 3 => Fin.ext (k0_dev6_eq d) | false, 4 => Fin.ext (k0_dev8_eq d) | false, 5 => Fin.ext (k0_dev10_eq d)
  | false, 6 => Fin.ext (k0_dev12_eq d) | false, 7 => Fin.ext (k0_dev14_eq d)
  | true, 0 => Fin.ext (k0_dev7_eq d) | true, 1 => Fin.ext (k0_dev9_eq d) | true, 2 => Fin.ext (k0_dev11_eq d)
  | true, 3 => Fin.ext (k0_dev13_eq d) | true, 4 => Fin.ext (k0_dev15_eq d) | true, 5 => Fin.ext (k0_dev16_eq d)
  | true, 6 => Fin.ext (k0_dev17_eq d) | true, 7 => Fin.ext (k0_dev18_eq d)

/-! ## The resources -/

/-- The rounds of the exchange: cells of every device, two duties at most. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The values -/

/-- Device `d`'s block of `A`, and of `B`. -/
def aV (d : Dev nD) : FVec F S768x384 .f32 := (win0_0.blk (0 : Fin 1)).view.read (Elt F) (m ((d : Thread nD τ).loc main_arg0))
def bV (d : Dev nD) : FVec F S384x768 .f32 := (win0_1.blk (0 : Fin 1)).view.read (Elt F) (m ((d : Thread nD τ).loc main_arg1))
/-- The rows it multiplies, rounded; the right operand, rounded. -/
def lV (d : Dev nD) : FVec F S384x384 .bf16 := k0_pay1 (F := F) (fun j => aV m d ((arows d).emb j))
def rV (d : Dev nD) : FVec F S384x768 .bf16 := k0_pay2 (F := F) (bV m d)
/-- Chunk `c` of its partial product, whole and rounded. -/
def pV (d : Dev nD) (c : Fin 8) : FVec F S48x768 .f32 := k0_pay4 (F := F) (fun j => lV m d ((lchunk c).emb j)) (rV m d)
def pB (d : Dev nD) (c : Fin 8) : FVec F S48x768 .bf16 := k0_pay5 (F := F) (fun j => lV m d ((lchunk c).emb j)) (rV m d)
/-- Chunk `c` of the sum of its partial product and its first neighbour's rounded one, whole and rounded. -/
def sV (d : Dev nD) (c : Fin 8) : FVec F S48x768 .f32 := k0_pay16 (F := F) (pV m d c) (pB m (peer d false) c)
def sB (d : Dev nD) (c : Fin 8) : FVec F S48x768 .bf16 := k0_pay17 (F := F) (pV m d c) (pB m (peer d false) c)
/-- Chunk `c` of the rows it receives from its second neighbour, widened. -/
def oV (d : Dev nD) (c : Fin 8) : FVec F S48x768 .f32 := k0_pay45 (F := F) (sB m (peer d true) c)
/-- What device `d` sends along a direction. -/
def msg (d : Dev nD) : Bool → Fin 8 → FVec F S48x768 .bf16
  | false, c => pB m d c
  | true, c => sB m d c

/-! ## The cells -/

/-- A device's cells: the barrier, and for direction `a` and chunk `c` the departure `(a, false, c)` and the arrival
    `(a, true, c)`. -/
abbrev Kk : Type := Option (Bool × Bool × Fin 8)
abbrev csem : Kk → SemLoc sig
  | none => .reg barSem
  | some (a, false, c) => .dma (sndSem a c)
  | some (a, true, c) => .dma (rcvSem a c)
abbrev barCell (d : Dev nD) : GSem nD τ sig := ((d : Thread nD τ), .reg barSem)
abbrev sndCell (d : Dev nD) (a : Bool) (c : Fin 8) : GSem nD τ sig := ((d : Thread nD τ), .dma (sndSem a c))
abbrev rcvCell (d : Dev nD) (a : Bool) (c : Fin 8) : GSem nD τ sig := ((d : Thread nD τ), .dma (rcvSem a c))
abbrev kcell (dk : Dev nD × Kk) : GSem nD τ sig := ((dk.1 : Thread nD τ), csem dk.2)

/-- Which of a device's cells a semaphore is, read off its number: the first three are the staging ones. -/
def dec : SemLoc sig → Option Kk
  | .reg s => if s = barSem then some none else none
  | .dma q => if 3 ≤ q.val then
      some (some (decide (16 ≤ q.val - 3), decide (8 ≤ (q.val - 3) % 16), ⟨(q.val - 3) % 8, Nat.mod_lt _ (by decide)⟩)) else none

theorem dec_bar : dec (.reg barSem) = some none := by unfold dec; exact if_pos rfl
set_option maxRecDepth 20000 in
theorem dec_snd : ∀ (a : Bool) (c : Fin 8), dec (.dma (sndSem a c)) = some (some (a, false, c)) := by decide
set_option maxRecDepth 20000 in
theorem dec_rcv : ∀ (a : Bool) (c : Fin 8), dec (.dma (rcvSem a c)) = some (some (a, true, c)) := by decide
theorem dec_csem : ∀ k : Kk, dec (csem k) = some k
  | none => dec_bar
  | some (a, false, c) => dec_snd a c
  | some (a, true, c) => dec_rcv a c

/-- Different cells are different semaphores. -/
theorem kcell_injective : Function.Injective kcell := by
  rintro ⟨d, k⟩ ⟨d', k'⟩ h
  have h1 : (d : Thread nD τ) = (d' : Thread nD τ) := congrArg Prod.fst h
  have h2 : csem k = csem k' := congrArg Prod.snd h
  have hk : some k = some k' := by rw [← dec_csem k, ← dec_csem k']; exact congrArg dec h2
  exact Prod.ext (show d = d' from congrArg (fun t : Thread nD τ => t.1) h1) (Option.some.inj hk)

/-! ## The units of a transfer -/

/-- The units one chunk's transfer credits. -/
abbrev N : ℕ := (rcvC false 0).view.dmaCredit
theorem N_pos : 0 < N := View.dmaCredit_pos _ (by decide)
theorem credit_rcv : ∀ (a : Bool) (c : Fin 8), (rcvC a c).view.dmaCredit = N | false, _ => rfl | true, _ => rfl
theorem credit_snd : ∀ (a : Bool) (c : Fin 8), (sndC a c).view.dmaCredit = N | false, _ => rfl | true, _ => rfl

/-! ## The schedule -/

/-- Chunk `c` of `d`'s send buffer of direction `a` at some contents, and at given ones; likewise its receive buffer. -/
abbrev sndAt (d : Dev nD) (a : Bool) (c : Fin 8) (v : FVec F S48x768 .bf16) : sProp 𝕄 := owns (d : Thread nD τ) (sndC a c) fullShare v
abbrev rcvAt (d : Dev nD) (a : Bool) (c : Fin 8) (v : FVec F S48x768 .bf16) : sProp 𝕄 := owns (d : Thread nD τ) (rcvC a c) fullShare v

/-- What the neighbour along `a` hands over with its barrier signal: its receive buffer of that direction, by chunks. -/
def barPay (d : Dev nD) (a : Bool) : sProp 𝕄 := bigSep Finset.univ fun c : Fin 8 => iprop(∃ v, rcvAt (F := F) (peer d a) a c v)

instance barPay_storable (d : Dev nD) (a : Bool) : BI.Storable (upEmb : UEmb _ 𝕄) (barPay (F := F) d a) := by
  unfold barPay; infer_instance

/-- What a cell's duty hands its owner. -/
def pay (d : Dev nD) : Kk → Bool → sProp 𝕄
  | none, b => barPay d b
  | some (a, false, c), _ => sndAt d a c (msg m d a c)
  | some (a, true, c), _ => rcvAt d a c (msg m (peer d a) a c)

instance pay_storable (d : Dev nD) (k : Kk) (b : Bool) : BI.Storable (upEmb : UEmb _ 𝕄) (pay m d k b) := by
  rcases k with _ | ⟨a, _ | _, c⟩ <;> unfold pay <;> infer_instance

/-- One round: the barrier has one duty per neighbour, a unit each; a departure or an arrival has one duty, the
    chunk's credit. -/
def Rd : Rounds.Schedule (GSem nD τ sig) Bool 𝕄 where
  duties g r := if r = 0 ∧ g.1.2 = .tc then
      (match dec g.2 with | none => ∅ | some none => Finset.univ | some (some _) => {false}) else ∅
  unitless _ := False
  amount g _ _ := match dec g.2 with | some (some _) => N | _ => 1
  payload g _ b := match dec g.2 with | none => iprop(emp) | some k => pay m g.1.1 k b
  amount_pos g _ _ _ := by
    rcases dec g.2 with _ | _ | _
    · exact Nat.one_pos
    · exact Nat.one_pos
    · exact N_pos

instance Rd_payload_storable (g : GSem nD τ sig) (r : ℕ) (b : Bool) :
    BI.Storable (upEmb : UEmb _ 𝕄) ((Rd (F := F) m).payload g r b) := by
  show BI.Storable upEmb (match dec g.2 with | none => iprop(emp) | some k => pay m g.1.1 k b)
  split <;> infer_instance

section Sched
variable (d : Dev nD) (a : Bool) (c : Fin 8)

theorem duties_bar : (Rd m).duties (barCell d) 0 = Finset.univ := by
  dsimp only [Rd]; rw [if_pos ⟨rfl, rfl⟩, dec_bar]
theorem duties_snd : (Rd m).duties (sndCell d a c) 0 = {false} := by
  dsimp only [Rd]; rw [if_pos ⟨rfl, rfl⟩, dec_snd]
theorem duties_rcv : (Rd m).duties (rcvCell d a c) 0 = {false} := by
  dsimp only [Rd]; rw [if_pos ⟨rfl, rfl⟩, dec_rcv]
theorem duties_later (g : GSem nD τ sig) : ∀ r, 1 ≤ r → (Rd m).duties g r = ∅ :=
  fun r hr => by dsimp only [Rd]; rw [if_neg fun h => by omega]

theorem amount_bar (b : Bool) : (Rd m).amount (barCell d) 0 b = 1 := by dsimp only [Rd]; rw [dec_bar]
theorem amount_snd (b : Bool) : (Rd m).amount (sndCell d a c) 0 b = N := by dsimp only [Rd]; rw [dec_snd]
theorem amount_rcv (b : Bool) : (Rd m).amount (rcvCell d a c) 0 b = N := by dsimp only [Rd]; rw [dec_rcv]

theorem expect_bar : (Rd m).expect (barCell d) 0 = 2 := by
  unfold Schedule.expect Schedule.amountOf
  rw [duties_bar, Finset.sum_congr rfl fun b _ => amount_bar m d b]; rfl
theorem expect_snd : (Rd m).expect (sndCell d a c) 0 = N := by
  unfold Schedule.expect Schedule.amountOf; rw [duties_snd, Finset.sum_singleton, amount_snd]
theorem expect_rcv : (Rd m).expect (rcvCell d a c) 0 = N := by
  unfold Schedule.expect Schedule.amountOf; rw [duties_rcv, Finset.sum_singleton, amount_rcv]

theorem payload_bar (b : Bool) : (Rd m).payload (barCell d) 0 b = barPay d b := by dsimp only [Rd]; rw [dec_bar]; rfl
theorem payload_snd (b : Bool) : (Rd m).payload (sndCell d a c) 0 b = sndAt d a c (msg m d a c) := by
  dsimp only [Rd]; rw [dec_snd]; rfl
theorem payload_rcv (b : Bool) : (Rd m).payload (rcvCell d a c) 0 b = rcvAt d a c (msg m (peer d a) a c) := by
  dsimp only [Rd]; rw [dec_rcv]; rfl

/-- All a round hands over: at the barrier both neighbours' buffers, elsewhere the one chunk. -/
theorem rest_bar : bigSep ((Rd m).duties (barCell d) 0 \ ∅) (fun b => (Rd m).payload (barCell d) 0 b)
    = iprop(barPay d false ∗ barPay d true) := by
  rw [Finset.sdiff_empty, duties_bar, bigSep_univ_eq_bigSepL [false, true] (by decide) (by decide), bigSepL_cons_cons,
    bigSepL_singleton, payload_bar, payload_bar]
  rfl
theorem rest_snd : bigSep ((Rd m).duties (sndCell d a c) 0 \ ∅) (fun b => (Rd m).payload (sndCell d a c) 0 b)
    = sndAt d a c (msg m d a c) := by
  rw [Finset.sdiff_empty, duties_snd, bigSep_singleton, payload_snd]
theorem rest_rcv : bigSep ((Rd m).duties (rcvCell d a c) 0 \ ∅) (fun b => (Rd m).payload (rcvCell d a c) 0 b)
    = rcvAt d a c (msg m (peer d a) a c) := by
  rw [Finset.sdiff_empty, duties_rcv, bigSep_singleton, payload_rcv]

end Sched

/-! ## What a device owes, and the levels -/

/-- What device `d` still owes for chunk `c` at stage `s`: the first neighbour's arrival until it is sent (stage 2), the
    second neighbour's until it is (stage 5). -/
def debt (d : Dev nD) (c : Fin 8) (s : ℕ) : CellTallies nD τ sig Unit :=
  (if s < 2 then tallyAt (rcvCell (peer d false) false c) () N else 0)
    + (if s < 5 then tallyAt (rcvCell (peer d true) true c) () N else 0)
/-- What it owes for all chunks, each at its stage. -/
def debts (d : Dev nD) (σ : Fin 8 → ℕ) : CellTallies nD τ sig Unit := ∑ c, debt d c (σ c)
/-- What it owes at launch: that for every chunk, and a unit to each neighbour's barrier. -/
def O₁ (d : Dev nD) : CellTallies nD τ sig Unit := debts d (fun _ => 0) + tallyAt (barCell (peer d true)) () 1
def O₀ (d : Dev nD) : CellTallies nD τ sig Unit := O₁ d + tallyAt (barCell (peer d false)) () 1

/-- The indices of a cell: one, on a TensorCore's. -/
def L (g : GSem nD τ sig) : Finset Unit := if g.1.2 = .tc then {()} else ∅
/-- The order of waiting: staging and departures first, then the barrier, then the first direction's arrivals by chunk,
    then the second's. -/
def lv (g : GSem nD τ sig) (_ : Unit) : ℕ := match dec g.2 with
  | some none => 1
  | some (some (false, true, c)) => 2 + c.val
  | some (some (true, true, c)) => 10 + c.val
  | _ => 0

theorem L_of_ne (g : GSem nD τ sig) (h : g.1.2 ≠ .tc) : L g = ∅ := if_neg h
theorem L_tc (d : Dev nD) (sm : SemLoc sig) : L ((d : Thread nD τ), sm) = {()} := if_pos rfl

theorem lv_bar (d : Dev nD) : lv (barCell d) () = 1 := by unfold lv; rw [dec_bar]
theorem lv_snd (d : Dev nD) (a : Bool) (c : Fin 8) : lv (sndCell d a c) () = 0 := by unfold lv; rw [dec_snd]; cases a <;> rfl
theorem lv_rcv_x (d : Dev nD) (c : Fin 8) : lv (rcvCell d false c) () = 2 + c.val := by unfold lv; rw [dec_rcv]
theorem lv_rcv_y (d : Dev nD) (c : Fin 8) : lv (rcvCell d true c) () = 10 + c.val := by unfold lv; rw [dec_rcv]

/-- A positive sum of tallies has a positive summand. -/
theorem sum_tally_pos {ι : Type} {s : Finset ι} {f : ι → CellTallies nD τ sig Unit} {g : GSem nD τ sig} {u : Unit}
    (h : 0 < (∑ i ∈ s, f i) g u) : ∃ i ∈ s, 0 < f i g u := by
  by_contra hn
  push Not at hn
  rw [Finset.sum_apply, Finsupp.finset_sum_apply, Finset.sum_eq_zero fun i hi => Nat.le_zero.mp (hn i hi)] at h
  exact Nat.lt_irrefl 0 h

/-- Where a device still owes: an arrival of a chunk not yet sent. -/
theorem debts_pos {d : Dev nD} {σ : Fin 8 → ℕ} {g : GSem nD τ sig} {u : Unit} (h : 0 < debts d σ g u) :
    ∃ c, (σ c < 2 ∧ g = rcvCell (peer d false) false c) ∨ (σ c < 5 ∧ g = rcvCell (peer d true) true c) := by
  obtain ⟨c, -, hc⟩ := sum_tally_pos h
  refine ⟨c, ?_⟩
  unfold debt at hc
  rw [Pi.add_apply, Finsupp.add_apply] at hc
  by_cases h1 : 0 < (if σ c < 2 then tallyAt (rcvCell (peer d false) false c) () N else (0 : CellTallies nD τ sig Unit)) g u
  · by_cases h2 : σ c < 2
    · rw [if_pos h2] at h1; exact .inl ⟨h2, (Pipeline.tallyAt_pos h1).1⟩
    · rw [if_neg h2] at h1; exact absurd h1 (Nat.lt_irrefl 0)
  · have h3 : 0 < (if σ c < 5 then tallyAt (rcvCell (peer d true) true c) () N else (0 : CellTallies nD τ sig Unit)) g u := by omega
    by_cases h2 : σ c < 5
    · rw [if_pos h2] at h3; exact .inr ⟨h2, (Pipeline.tallyAt_pos h3).1⟩
    · rw [if_neg h2] at h3; exact absurd h3 (Nat.lt_irrefl 0)

/-- A wait at level `n` is above nothing owed when every chunk still owed lies above `n`. -/
def Below (n : ℕ) (σ : Fin 8 → ℕ) : Prop := ∀ c : Fin 8, (σ c < 2 → n < 2 + c.val) ∧ (σ c < 5 → n < 10 + c.val)

instance (n : ℕ) (σ : Fin 8 → ℕ) : Decidable (Below n σ) := by unfold Below; infer_instance

theorem mayWait_debts (d : Dev nD) (sm : SemLoc sig) (σ : Fin 8 → ℕ) (h : Below (lv ((d : Thread nD τ), sm) ()) σ) :
    (levAts L lv : sProp 𝕄) ⊢ MayWait (d : Thread nD τ) sm () (debts d σ) :=
  MayOwe.of_cut (L := L) (lev := lv) (lv ((d : Thread nD τ), sm) ())
    (fun p hp => by rw [Finset.mem_singleton.mp hp, L_tc]; exact Finset.mem_singleton_self _)
    (fun g u hg => by obtain ⟨c, ⟨_, rfl⟩ | ⟨_, rfl⟩⟩ := debts_pos hg <;> exact Finset.mem_singleton_self _)
    (fun p hp => by rw [Finset.mem_singleton.mp hp])
    (fun g u hg => by
      obtain ⟨c, ⟨hc, rfl⟩ | ⟨hc, rfl⟩⟩ := debts_pos hg
      · rw [lv_rcv_x]; exact (h c).1 hc
      · rw [lv_rcv_y]; exact (h c).2 hc)

/-- Before the barrier too: a wait at level 0 is above nothing owed at launch. -/
theorem mayWait_launch (d : Dev nD) (sm : SemLoc sig) (h : lv ((d : Thread nD τ), sm) () = 0) :
    (levAts L lv : sProp 𝕄) ⊢ MayWait (d : Thread nD τ) sm () (O₀ d) := by
  have pos : ∀ {g : GSem nD τ sig} {u : Unit}, 0 < O₀ d g u →
      (∃ c, g = rcvCell (peer d false) false c ∨ g = rcvCell (peer d true) true c)
        ∨ g = barCell (peer d true) ∨ g = barCell (peer d false) := by
    intro g u hg
    unfold O₀ O₁ at hg
    rw [Pi.add_apply, Finsupp.add_apply, Pi.add_apply, Finsupp.add_apply] at hg
    by_cases h1 : 0 < debts d (fun _ => 0) g u
    · obtain ⟨c, hc⟩ := debts_pos h1; exact .inl ⟨c, hc.imp And.right And.right⟩
    by_cases h2 : 0 < (tallyAt (barCell (peer d true)) () 1 : CellTallies nD τ sig Unit) g u
    · exact .inr (.inl (Pipeline.tallyAt_pos h2).1)
    · exact .inr (.inr (Pipeline.tallyAt_pos (by omega : 0 < (tallyAt (barCell (peer d false)) () 1 : CellTallies nD τ sig Unit) g u)).1)
  refine MayOwe.of_cut (L := L) (lev := lv) 0
    (fun p hp => by rw [Finset.mem_singleton.mp hp, L_tc]; exact Finset.mem_singleton_self _)
    (fun g u hg => by rcases pos hg with ⟨c, rfl | rfl⟩ | rfl | rfl <;> exact Finset.mem_singleton_self _)
    (fun p hp => by rw [Finset.mem_singleton.mp hp]; exact le_of_eq h)
    (fun g u hg => by
      rcases pos hg with ⟨c, rfl | rfl⟩ | rfl | rfl
      · rw [lv_rcv_x]; omega
      · rw [lv_rcv_y]; omega
      · rw [lv_bar]; omega
      · rw [lv_bar]; omega)

/-- Advancing one chunk's stage changes its own debt only. -/
theorem debts_update (d : Dev nD) (σ : Fin 8 → ℕ) (c : Fin 8) (s : ℕ) :
    debts d (Function.update σ c s) = (∑ c' ∈ Finset.univ.erase c, debt d c' (σ c')) + debt d c s := by
  unfold debts
  rw [← Finset.sum_erase_add _ _ (Finset.mem_univ c), Function.update_self]
  exact congrArg (· + _) (Finset.sum_congr rfl fun c' hc' => by rw [Function.update_of_ne (Finset.ne_of_mem_erase hc')])

/-- All sent, nothing is owed. -/
theorem debts_done (d : Dev nD) : debts d (fun _ => 7) = 0 := by
  unfold debts debt; exact Finset.sum_eq_zero fun c _ => by
    rw [if_neg (by show ¬ 7 < 2; decide), if_neg (by show ¬ 7 < 5; decide), add_zero]

end Cert.KernelIdeal.MM

end
-- ==== Proof.Tiles.lean ====
/- The buffers cut into chunks, and the loads and stores of a chunk.

   The eight chunks of a 384-row buffer are disjoint and cover it; so do the sixteen chunks of the result, a device's own
   eight and the eight it receives. A buffer is therefore its chunks, each held with its value, and a whole value is put
   together from the chunks' ones. -/
module

public import proofs.«01_k».proof.Proof.Sched

@[expose] public section

noncomputable section

namespace Cert.KernelIdeal.MM

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ UU ℕ

/-- Every element type has a value. -/
theorem elt_nonempty : ∀ e, Nonempty (Elt F e)
  | .i1 => ⟨(0 : BitVec 1)⟩ | .i4 => ⟨(0 : BitVec 4)⟩ | .i8 => ⟨(0 : BitVec 8)⟩
  | .i16 => ⟨(0 : BitVec 16)⟩ | .i32 => ⟨(0 : BitVec 32)⟩ | .i64 => ⟨(0 : BitVec 64)⟩
  | .fp8e4m3 => ⟨FloatOps.ofBits .fp8e4m3 0⟩ | .fp8e5m2 => ⟨FloatOps.ofBits .fp8e5m2 0⟩
  | .bf16 => ⟨FloatOps.ofBits .bf16 0⟩ | .f16 => ⟨FloatOps.ofBits .f16 0⟩ | .f32 => ⟨FloatOps.ofBits .f32 0⟩

/-! ## The chunks cover -/

theorem chunk_disj (c c' : Fin 8) (h : c ≠ c') : Disjoint (chunk c).set (chunk c').set :=
  Rect.unit_disjoint 0 (by
    have : c.val ≠ c'.val := fun e => h (Fin.ext e)
    show 48 * c.val + 48 ≤ 48 * c'.val ∨ 48 * c'.val + 48 ≤ 48 * c.val
    omega)

theorem chunk_cover : (Finset.univ.biUnion fun c : Fin 8 => (chunk c).set) = Finset.univ := by
  refine Finset.eq_univ_of_forall fun i => ?_
  have h0 : (i 0).val < 384 := (i 0).isLt
  have h1 : (i 1).val < 768 := (i 1).isLt
  refine Finset.mem_biUnion.mpr ⟨⟨(i 0).val / 48, by omega⟩, Finset.mem_univ _, Rect.mem_set_unit.mpr ?_⟩
  refine Fin.forall_fin_two.mpr ⟨?_, ?_⟩
  · show 48 * ((i 0).val / 48) ≤ (i 0).val ∧ (i 0).val < 48 * ((i 0).val / 48) + 48
    omega
  · show 0 ≤ (i 1).val ∧ (i 1).val < 0 + 768
    omega

/-- The first row of chunk `c` of the result: of the half device `d` sums, and of the half it receives. -/
theorem own_off (d : Dev nD) (c : Fin 8) : k0_off2 d (BitVec.ofNat 32 (48 * c.val)) = ![384 * (d.val % 2) + 48 * c.val, 0] :=
  k0_off2_eq d c
theorem oth_off (d : Dev nD) (c : Fin 8) : k0_off3 d (BitVec.ofNat 32 (48 * c.val)) = ![(48 * c.val + 384) - 384 * (d.val % 2), 0] :=
  k0_off3_eq d c

/-- The sixteen chunks of the result on device `d`: its own (`false`) and the received (`true`). -/
abbrev outR (d : Dev nD) (t : Bool × Fin 8) : Rect S768x768 :=
  Rect.unit (s := S768x768) (match t.1 with | false => k0_off2 d (BitVec.ofNat 32 (48 * t.2.val)) | true => k0_off3 d (BitVec.ofNat 32 (48 * t.2.val)))
    S48x768.size (match t with | (false, c) => k0_off2_inb d c | (true, c) => k0_off3_inb d c)

/-- The first row of a chunk of the result. -/
def row0 (d : Dev nD) : Bool × Fin 8 → ℕ
  | (false, c) => 384 * (d.val % 2) + 48 * c.val
  | (true, c) => (48 * c.val + 384) - 384 * (d.val % 2)

theorem outR_off (d : Dev nD) : ∀ t : Bool × Fin 8, (outR d t).off = ![row0 d t, 0]
  | (false, c) => own_off d c
  | (true, c) => oth_off d c

theorem mem_outR (d : Dev nD) (t : Bool × Fin 8) (i : S768x768.Idx) :
    i ∈ (outR d t).set ↔ row0 d t ≤ (i 0).val ∧ (i 0).val < row0 d t + 48 := by
  have h1 : (i 1).val < 768 := (i 1).isLt
  have ho := outR_off d t
  have e0 : (outR d t).off 0 = row0 d t := congrFun ho 0
  have e1 : (outR d t).off 1 = 0 := congrFun ho 1
  rw [Rect.mem_set_unit, Fin.forall_fin_two]
  constructor
  · rintro ⟨⟨h, h'⟩, -⟩
    have h2 : (outR d t).off 0 ≤ (i 0).val := h
    have h3 : (i 0).val < (outR d t).off 0 + 48 := h'
    omega
  · intro ⟨h, h'⟩
    refine ⟨⟨?_, ?_⟩, ?_, ?_⟩
    · show (outR d t).off 0 ≤ (i 0).val; omega
    · show (i 0).val < (outR d t).off 0 + 48; omega
    · show (outR d t).off 1 ≤ (i 1).val; omega
    · show (i 1).val < (outR d t).off 1 + 768; omega

theorem outR_disj (d : Dev nD) (t t' : Bool × Fin 8) (h : t ≠ t') : Disjoint (outR d t).set (outR d t').set := by
  rw [Finset.disjoint_left]
  intro i hi hi'
  rw [mem_outR] at hi hi'
  obtain ⟨b, c⟩ := t; obtain ⟨b', c'⟩ := t'
  have hc := c.isLt; have hc' := c'.isLt
  cases b <;> cases b' <;> simp only [row0] at hi hi'
  · exact h (by rw [Prod.mk.injEq]; exact ⟨rfl, Fin.ext (by omega)⟩)
  · omega
  · omega
  · exact h (by rw [Prod.mk.injEq]; exact ⟨rfl, Fin.ext (by omega)⟩)

theorem outR_cover (d : Dev nD) : (Finset.univ.biUnion fun t : Bool × Fin 8 => (outR d t).set) = Finset.univ := by
  refine Finset.eq_univ_of_forall fun i => ?_
  have h0 : (i 0).val < 768 := (i 0).isLt
  by_cases hh : (i 0).val / 384 = d.val % 2
  · refine Finset.mem_biUnion.mpr ⟨(false, ⟨((i 0).val % 384) / 48, by omega⟩), Finset.mem_univ _, (mem_outR d _ i).mpr ?_⟩
    simp only [row0]; omega
  · refine Finset.mem_biUnion.mpr ⟨(true, ⟨((i 0).val % 384) / 48, by omega⟩), Finset.mem_univ _, (mem_outR d _ i).mpr ?_⟩
    simp only [row0]; omega

/-! ## A value put together from its parts -/

/-- The value whose part in each rectangle of a covering disjoint family is the given one. -/
def glue {s : Shape} {T : Type} [Fintype T] [DecidableEq T] {α : Type} (r : T → Rect s)
    (hcov : (Finset.univ.biUnion fun t => (r t).set) = Finset.univ) (v : (t : T) → (r t).shape.Idx → α) (i : s.Idx) : α :=
  have h : ∃ (t : T) (j : (r t).shape.Idx), (r t).emb j = i := by
    obtain ⟨t, -, ht⟩ := Finset.mem_biUnion.mp (hcov.symm ▸ Finset.mem_univ i)
    obtain ⟨j, hj⟩ := (r t).exists_idx_of_mem ht
    exact ⟨t, j, hj⟩
  v h.choose h.choose_spec.choose

theorem glue_emb {s : Shape} {T : Type} [Fintype T] [DecidableEq T] {α : Type} (r : T → Rect s)
    (hcov : (Finset.univ.biUnion fun t => (r t).set) = Finset.univ) (hd : ∀ t t', t ≠ t' → Disjoint (r t).set (r t').set)
    (v : (t : T) → (r t).shape.Idx → α) (t : T) (j : (r t).shape.Idx) : glue r hcov v ((r t).emb j) = v t j := by
  have key : ∀ (t' : T) (j' : (r t').shape.Idx), (r t').emb j' = (r t).emb j → v t' j' = v t j := by
    intro t' j' e
    have ht : t' = t := by
      by_contra hne
      have h1 : (r t).emb j ∈ (r t').set := e ▸ (r t').idx_mem j'
      exact Finset.disjoint_left.mp (hd t' t hne) h1 ((r t).idx_mem j)
    subst ht
    rw [(r t').emb.injective e]
  have h : ∃ (t' : T) (j' : (r t').shape.Idx), (r t').emb j' = (r t).emb j := ⟨t, j, rfl⟩
  exact key h.choose h.choose_spec.choose h.choose_spec.choose_spec

/-! ## Whole buffers and their chunks -/

/-- A 384-row buffer at a value is its chunks at their parts; -/
theorem chunks_split {e : EltTy} (d : Dev nD) (mm : Memref sig .tc .vmem S384x768 e) (X : S384x768.Idx → Elt F e) :
    (owns (d : Thread nD τ) mm fullShare X : sProp 𝕄)
      ⊢ bigSep Finset.univ fun c : Fin 8 => iprop(∃ v, owns (d : Thread nD τ) (mm.slice (chunk c) (fun _ => rfl)) fullShare v) := by
  refine (owns_rects (d : Thread nD τ) mm fullShare chunk (fun _ _ => rfl) chunk_disj chunk_cover X).trans (bigSep_mono fun c _ => ?_)
  exact exists_intro (Φ := fun v => (owns (d : Thread nD τ) (mm.slice (chunk c) (fun _ => rfl)) fullShare v : sProp 𝕄)) _

/-- and chunks at values join to the whole. -/
theorem chunks_join {e : EltTy} (d : Dev nD) (mm : Memref sig .tc .vmem S384x768 e) (v : Fin 8 → S48x768.Idx → Elt F e) :
    (bigSep Finset.univ fun c : Fin 8 => owns (d : Thread nD τ) (mm.slice (chunk c) (fun _ => rfl)) fullShare (v c))
      ⊢ (iprop(∃ X, owns (d : Thread nD τ) mm fullShare X) : sProp 𝕄) := by
  haveI := elt_nonempty (F := F)
  have h := owns_of_rects (Ix := Unit) (Name := ℕ) (U := UU) (Lvl := ℕ) (Val := Elt F) (d : Thread nD τ) mm fullShare chunk (fun _ _ => rfl)
    chunk_disj chunk_cover (glue chunk chunk_cover v)
  have e : ∀ c, (fun j => glue chunk chunk_cover v ((chunk c).emb j)) = v c := fun c =>
    funext fun j => glue_emb chunk chunk_cover chunk_disj v c j
  simp only [e] at h
  exact h.trans (exists_intro (Φ := fun X => (owns (d : Thread nD τ) mm fullShare X : sProp 𝕄)) _)

/-! ## Loads and stores -/

abbrev 𝒱₀ : Variants := Variants.none

/-- A load of a rectangle of a memref held at `X`. -/
theorem load_of {s : Shape} {e : EltTy} {α : Type} (d : Dev nD) (mm : Memref sig .tc .vmem s e) (r : Rect s) (X : s.Idx → Elt F e)
    {hl : mm.view.LoadsAt r.toLoadRect} {k : (r.shape.Idx → Elt F e) → Prog (TpuEff nD τ sig (Elt F) Λ₀ .tc) α} {Q : α → sProp 𝕄} :
    owns (d : Thread nD τ) mm fullShare X
      ⊢ iprop((owns (d : Thread nD τ) mm fullShare X -∗ wp frame (wpE (defs₀ (F := F)) 𝒱₀ d none) Set.univ (k fun j => X (r.emb j)) Q)
        -∗ wp frame (wpE (defs₀ (F := F)) 𝒱₀ d none) Set.univ (.op (.load mm r.toLoadRect hl) k) Q) := by
  unfold owns
  iintro ⟨%f, %hf, H⟩ Hk
  subst hf
  iapply (wp_load_rect 𝒱₀ (d : Thread nD τ) none Set.univ (m := mm) (r := r) (View.set_slice_subset _ r)) $$ H
  iintro H
  iapply Hk
  iexists f
  isplitr; · ipureintro; rfl
  iexact H

/-- A load of a rectangle held by itself. -/
theorem load_at {s : Shape} {e : EltTy} {α : Type} (d : Dev nD) (mm : Memref sig .tc .vmem s e) (r : Rect s) (hr : ∀ a, r.stride a = 1)
    (v : r.shape.Idx → Elt F e)
    {hl : mm.view.LoadsAt r.toLoadRect} {k : (r.shape.Idx → Elt F e) → Prog (TpuEff nD τ sig (Elt F) Λ₀ .tc) α} {Q : α → sProp 𝕄} :
    owns (d : Thread nD τ) (mm.slice r hr) fullShare v
      ⊢ iprop((owns (d : Thread nD τ) (mm.slice r hr) fullShare v -∗ wp frame (wpE (defs₀ (F := F)) 𝒱₀ d none) Set.univ (k v) Q)
        -∗ wp frame (wpE (defs₀ (F := F)) 𝒱₀ d none) Set.univ (.op (.load mm r.toLoadRect hl) k) Q) := by
  unfold owns
  iintro ⟨%f, %hf, H⟩ Hk
  subst hf
  iapply (wp_load_rect 𝒱₀ (d : Thread nD τ) none Set.univ (m := mm) (r := r) (Finset.Subset.refl _)) $$ H
  iintro H
  iapply Hk
  iexists f
  isplitr; · ipureintro; rfl
  iexact H

/-- A store to a rectangle held by itself. -/
theorem store_at {s : Shape} {e : EltTy} {α : Type} (d : Dev nD) (mm : Memref sig .tc .vmem s e) (r : Rect s) (hr : ∀ a, r.stride a = 1)
    (v w : r.shape.Idx → Elt F e) {hx : (mm.access r).Stores Finset.univ} {hm : Finset.univ = Finset.univ ∨ ∀ a, r.stride a = 1}
    {k : PUnit → Prog (TpuEff nD τ sig (Elt F) Λ₀ .tc) α} {Q : α → sProp 𝕄} :
    owns (d : Thread nD τ) (mm.slice r hr) fullShare v
      ⊢ iprop((owns (d : Thread nD τ) (mm.slice r hr) fullShare w -∗ wp frame (wpE (defs₀ (F := F)) 𝒱₀ d none) Set.univ (k ⟨⟩) Q)
        -∗ wp frame (wpE (defs₀ (F := F)) 𝒱₀ d none) Set.univ (.op (.store mm r w Finset.univ hx hm) k) Q) := by
  unfold owns
  iintro ⟨%f, %hf, H⟩ Hk
  iapply (wp_store 𝒱₀ (d : Thread nD τ) none Set.univ (m := mm) (r := r) (Mk := Finset.univ)
    (S := (mm.slice r hr).view.set) (f := f) (Finset.Subset.refl _)) $$ H
  iintro H
  iapply Hk
  iexists ((mm.access r).write (Elt F) f w Finset.univ)
  isplitr; · ipureintro; exact View.read_write_univ f w
  iexact H

/-- A store to the whole of a memref, through a rectangle that is all of it. -/
theorem store_of {s : Shape} {e : EltTy} {α : Type} (d : Dev nD) (mm : Memref sig .tc .vmem s e) (r : Rect s)
    (X : s.Idx → Elt F e) (w : r.shape.Idx → Elt F e) (Y : s.Idx → Elt F e) (hY : ∀ j, Y (r.emb j) = w j) (hcov : r.set = Finset.univ)
    {hx : (mm.access r).Stores Finset.univ} {hm : Finset.univ = Finset.univ ∨ ∀ a, r.stride a = 1}
    {k : PUnit → Prog (TpuEff nD τ sig (Elt F) Λ₀ .tc) α} {Q : α → sProp 𝕄} :
    owns (d : Thread nD τ) mm fullShare X
      ⊢ iprop((owns (d : Thread nD τ) mm fullShare Y -∗ wp frame (wpE (defs₀ (F := F)) 𝒱₀ d none) Set.univ (k ⟨⟩) Q)
        -∗ wp frame (wpE (defs₀ (F := F)) 𝒱₀ d none) Set.univ (.op (.store mm r w Finset.univ hx hm) k) Q) := by
  unfold owns
  iintro ⟨%f, %hf, H⟩ Hk
  iapply (wp_store 𝒱₀ (d : Thread nD τ) none Set.univ (m := mm) (r := r) (Mk := Finset.univ)
    (S := mm.view.set) (f := f) (View.set_slice_subset _ r)) $$ H
  iintro H
  iapply Hk
  iexists ((mm.access r).write (Elt F) f w Finset.univ)
  isplitr
  · ipureintro
    funext i
    obtain ⟨j, rfl⟩ := r.exists_idx_of_mem (hcov ▸ Finset.mem_univ i : i ∈ r.set)
    exact (View.read_slice_write_emb r f w (Finset.mem_univ j)).trans (hY j).symm
  iexact H

end Cert.KernelIdeal.MM

end
-- ==== Proof.Body.lean ====
/- The body's steps, each proved once for any chunk, and the body as a run of them.

   A chunk goes through eight stages: nothing done (0), its product stored (1), sent to the first neighbour (2), that
   exchange over (3), the sum stored (4), sent to the second neighbour (5), that exchange over (6), the received rows
   placed (7). `St` says what a device holds for a chunk at each stage. -/
module

public import proofs.«01_k».proof.Proof.Tiles

@[expose] public section

noncomputable section

namespace Cert.KernelIdeal.MM

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

section Steps
variable (K : Dev nD × Kk → ℕ) (d : Dev nD)

/-! ## What all steps share -/

/-- Every cell's invariant, and that every cell's round 0 is reached. -/
def recs : sProp 𝕄 :=
  iprop((bigSep Finset.univ fun dk : Dev nD × Kk => cellInv ER (Rd m) (K dk) (kcell dk))
    ∗ bigSep Finset.univ fun dk : Dev nD × Kk => reached ER (kcell dk) 0)

instance recs_persistent : BI.Persistent (recs m K) := by unfold recs; infer_instance

theorem inv_at (dk : Dev nD × Kk) : recs m K ⊢ cellInv ER (Rd m) (K dk) (kcell dk) := by
  unfold recs
  have h : (bigSep Finset.univ fun dk : Dev nD × Kk => cellInv ER (Rd m) (K dk) (kcell dk) : sProp 𝕄) ⊢ cellInv ER (Rd m) (K dk) (kcell dk) :=
    bigSep_elim (Finset.mem_univ dk)
  iintro ⟨H, -⟩
  iapply h
  iexact H

theorem reached_at (dk : Dev nD × Kk) : recs m K ⊢ (reached ER (kcell dk) 0 : sProp 𝕄) := by
  unfold recs
  have h : (bigSep Finset.univ fun dk : Dev nD × Kk => (reached ER (kcell dk) 0 : sProp 𝕄)) ⊢ reached ER (kcell dk) 0 :=
    bigSep_elim (Finset.mem_univ dk)
  iintro ⟨-, H⟩
  iapply h
  iexact H

/-- What a device owes, whatever it has waited for. -/
def owing (O : CellTallies nD τ sig Unit) : sProp 𝕄 := iprop(∃ W, owes (d : Thread nD τ) O W)

/-! ## One exchange -/

/-- Before chunk `c` is sent along `a`: the right to pay its two duties, the neighbour's rows to write to, the positions
    of the chunk's own two cells and the credit of its arrival. -/
def Idle (a : Bool) (c : Fin 8) : sProp 𝕄 :=
  iprop(dutyTok ER (sndCell d a c) 0 false ∗ dutyTok ER (rcvCell (peer d a) a c) 0 false ∗ (∃ v, rcvAt (peer d a) a c v)
    ∗ atPos ER (sndCell d a c) 0 ∅ 0 ∗ atPos ER (rcvCell d a c) 0 ∅ 0 ∗ cred (tallyAt (rcvCell d a c) () N))
/-- While it is under way. -/
def Fly (a : Bool) (c : Fin 8) : sProp 𝕄 :=
  iprop(cred (tallyAt (sndCell d a c) () N)
    ∗ atPos ER (sndCell d a c) 0 ∅ 0 ∗ atPos ER (rcvCell d a c) 0 ∅ 0 ∗ cred (tallyAt (rcvCell d a c) () N))
/-- When it is over: its own rows back and the neighbour's arrived. -/
def Over (a : Bool) (c : Fin 8) : sProp 𝕄 :=
  iprop(atPos ER (sndCell d a c) 1 ∅ 0 ∗ atPos ER (rcvCell d a c) 1 ∅ 0
    ∗ sndAt d a c (msg m d a c) ∗ rcvAt d a c (msg m (peer d a) a c))

/-- The transfer's own rule at chunk `c`, addressed to the neighbour. -/
theorem send_at (a : Bool) (c : Fin 8) (n : Dev nD) (hn : n = peer d a)
    {hsc : (rcvC a c : Memref sig (Dev.tc n : Thread nD τ).2.kind .vmem S48x768 .bf16).view.ref.isScScratch = false}
    {hsrc : (sndC a c).view.WordExact} {hdst : (rcvC a c).view.WordExact}
    {hsem : DmaTarget.Typed .vmem (.dma (rcvSem a c)) (.remote (Dev.tc n : Thread nD τ) (rcvC a c) (.dma (sndSem a c)) hsc)}
    {α : Type} {Q : α → sProp 𝕄} {k : PUnit → Prog (TpuEff nD τ sig (Elt F) Λ₀ .tc) α} (O : CellTallies nD τ sig Unit) (W : Waits sig Unit) :
    iprop(recs m K ∗ Idle d a c ∗ sndAt d a c (msg m d a c) ∗ owes (d : Thread nD τ) (O + tallyAt (rcvCell (peer d a) a c) () N) W)
      ⊢ iprop(((Fly d a c ∗ owes (d : Thread nD τ) O W) -∗ wp frame (wpE (defs₀ (F := F)) 𝒱₀ d none) Set.univ (k ⟨⟩) Q)
          -∗ wp frame (wpE (defs₀ (F := F)) 𝒱₀ d none) Set.univ
              (.op (.enqueueDma (sndC a c) (.remote (Dev.tc n : Thread nD τ) (rcvC a c) (.dma (sndSem a c)) hsc) (.dma (rcvSem a c)) hsrc hdst hsem) k) Q) := by
  subst hn
  unfold Idle Fly sndAt rcvAt owns
  iintro ⟨#Hr, ⟨Ht1, Ht2, ⟨%v, %fd, -, Hd⟩, Ha1, Ha2, Hc⟩, ⟨%fs, %hfs, Hs⟩, HO⟩ Hk
  ihave #Hi1 := (inv_at m K (d, some (a, false, c))) $$ Hr
  ihave #Hi2 := (inv_at m K (peer d a, some (a, true, c))) $$ Hr
  ihave #Hr1 := (reached_at m K (d, some (a, false, c))) $$ Hr
  ihave #Hr2 := (reached_at m K (peer d a, some (a, true, c))) $$ Hr
  iapply (Rounds.wp_send_pointsTo 𝒱₀ ER (Rd m) (d : Thread nD τ) none (κ₁ := K (d, some (a, false, c))) (κ₂ := K (peer d a, some (a, true, c)))
    (r₁ := 0) (r₂ := 0) (d₁ := false) (d₂ := false) (fs := fs) (fd := fd)
    (by rw [duties_snd]; exact Finset.mem_singleton_self _) (by rw [duties_rcv]; exact Finset.mem_singleton_self _)
    () () N (show (rcvC a c).view.amount (.dma (rcvSem a c)) = N from credit_rcv a c) (amount_snd m d a c false) (amount_rcv m (peer d a) a c false) O rfl (W := W)
    (by rw [payload_snd, ← hfs]; exact owns_intro (d : Thread nD τ) (sndC a c) fullShare fs)
    (by
      rw [payload_rcv, peer_peer, ← hfs]
      refine (owns_intro (peer d a : Thread nD τ) (rcvC a c) fullShare _).trans (Entails.of_eq ?_)
      rw [View.read_write_univ])) $$ [Ht1 Ht2 Hd Hs HO]
  · isplitr; · iexact Hi1
    isplitr; · iexact Hi2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hcs, HO⟩
  iapply Hk
  isplitr [HO]
  · isplitl [Hcs]; · iexact Hcs
    isplitl [Ha1]; · iexact Ha1
    isplitl [Ha2]; · iexact Ha2
    iexact Hc
  · iexact HO

/-- The start of an exchange. -/
theorem start_ok (a : Bool) (c : Fin 8) (O : CellTallies nD τ sig Unit) {Q : PUnit → sProp 𝕄} :
    iprop(recs m K ∗ Idle d a c ∗ sndAt d a c (msg m d a c) ∗ owing d (O + tallyAt (rcvCell (peer d a) a c) () N))
      ⊢ iprop(((Fly d a c ∗ owing d O) -∗ Q ⟨⟩) -∗ wp frame (wpE (defs₀ (F := F)) 𝒱₀ d none) Set.univ (start d a c) Q) := by
  unfold owing start Prog.lift
  iintro ⟨#Hr, Hi, Hs, %W, HO⟩ Hk
  iapply (send_at m K d a c _ (tgt_eq d a c) O W) $$ [Hi Hs HO]
  · isplitr; · iexact Hr
    isplitl [Hi]; · iexact Hi
    isplitl [Hs]; · iexact Hs
    iexact HO
  iintro ⟨Hf, HO⟩
  rw [wp_ret]; imodintro
  iapply Hk
  isplitl [Hf]; · iexact Hf
  iexists W; iexact HO

theorem Below.mono {n n' : ℕ} {σ : Fin 8 → ℕ} (h : Below n σ) (hn : n' ≤ n) : Below n' σ :=
  fun c => ⟨fun hc => lt_of_le_of_lt hn ((h c).1 hc), fun hc => lt_of_le_of_lt hn ((h c).2 hc)⟩

/-- The two waits of an exchange. -/
theorem await_ok (a : Bool) (c : Fin 8) (σ : Fin 8 → ℕ) (h : Below (lv (rcvCell d a c) ()) σ) {Q : PUnit → sProp 𝕄} :
    iprop(recs m K ∗ levAts L lv ∗ Fly d a c ∗ owing d (debts d σ))
      ⊢ iprop(((Over m d a c ∗ owing d (debts d σ)) -∗ Q ⟨⟩) -∗ wp frame (wpE (defs₀ (F := F)) 𝒱₀ d none) Set.univ (await a c) Q) := by
  unfold owing await Fly Over
  simp only [Prog.lift, Prog.bind_op, Prog.bind_ret, Prog.pure_eq_ret]
  iintro ⟨#Hr, #Hl, ⟨Hcs, Ha1, Ha2, Hcr⟩, %W, HO⟩ Hk
  ihave #Hi1 := (inv_at m K (d, some (a, false, c))) $$ Hr
  ihave #Hi2 := (inv_at m K (d, some (a, true, c))) $$ Hr
  iapply (Rounds.wp_wait_rest_token 𝒱₀ ER (Rd m) (d : Thread nD τ) none (κ := K (d, some (a, false, c))) (k' := N)
      (fun Kq => (wpE_waitDma2_eq 𝒱₀ (d : Thread nD τ) none Set.univ Kq).trans (by rw [credit_snd])) (Set.mem_univ _) ()
      (O := debts d σ) (W := W) (R := 0) (m := 0) (T := ∅)
      (by rw [Nat.zero_add, expect_snd])) $$ [Hcs HO Ha1]
  · isplitr; · iexact Hi1
    isplitl [Hcs]; · iexact Hcs
    isplitl [HO]; · iexact HO
    isplitr; · iapply (mayWait_debts d (.dma (sndSem a c)) σ (h.mono (by rw [lv_snd]; exact Nat.zero_le _))); iexact Hl
    iexact Ha1
  iintro ⟨HO, Ha1, -, Hp1⟩
  ihave Hs := (Entails.of_eq (rest_snd m d a c)) $$ Hp1
  iapply (Rounds.wp_wait_rest_token 𝒱₀ ER (Rd m) (d : Thread nD τ) none (κ := K (d, some (a, true, c))) (k' := N)
      (fun Kq => (wpE_waitDma2_eq 𝒱₀ (d : Thread nD τ) none Set.univ Kq).trans (by rw [credit_rcv])) (Set.mem_univ _) ()
      (O := debts d σ) (W := insert (SemLoc.dma (sndSem a c), ()) W) (R := 0) (m := 0) (T := ∅)
      (by rw [Nat.zero_add, expect_rcv])) $$ [Hcr HO Ha2]
  · isplitr; · iexact Hi2
    isplitl [Hcr]; · iexact Hcr
    isplitl [HO]; · iexact HO
    isplitr; · iapply (mayWait_debts d (.dma (rcvSem a c)) σ h); iexact Hl
    iexact Ha2
  iintro ⟨HO, Ha2, -, Hp2⟩
  ihave Hd := (Entails.of_eq (rest_rcv m d a c)) $$ Hp2
  rw [wp_ret]; imodintro
  iapply Hk
  isplitr [HO]
  · isplitl [Ha1]; · iexact Ha1
    isplitl [Ha2]; · iexact Ha2
    isplitl [Hs]; · iexact Hs
    iexact Hd
  · iexists _; iexact HO

/-! ## The arithmetic steps -/

/-- The staged operands, chunk `c` of the accumulator, and of the two halves of the result. -/
abbrev lAt : sProp 𝕄 := owns (d : Thread nD τ) mL fullShare (lV m d)
abbrev rAt : sProp 𝕄 := owns (d : Thread nD τ) mR fullShare (rV m d)
abbrev accAt (c : Fin 8) (v : FVec F S48x768 .f32) : sProp 𝕄 := owns (d : Thread nD τ) (mAcc.slice (chunk c) (fun _ => rfl)) fullShare v
abbrev ownAt (c : Fin 8) (v : FVec F S48x768 .f32) : sProp 𝕄 := owns (d : Thread nD τ) (mO.slice (own d c) (fun _ => rfl)) fullShare v
abbrev othAt (c : Fin 8) (v : FVec F S48x768 .f32) : sProp 𝕄 := owns (d : Thread nD τ) (mO.slice (oth d c) (fun _ => rfl)) fullShare v

theorem zero_off : (![0, 0] : Fin 2 → Nat) = fun _ => 0 := funext fun a => by fin_cases a <;> rfl
/-- The whole right operand's part in the rectangle that is all of it is itself. -/
theorem rall_emb (X : S384x768.Idx → Elt F .bf16) : (fun j => X (rall.emb j)) = X :=
  Memref.readAt_unit_zero (Elt F) cc0_scratch1 zero_off _ X

/-- The product of chunk `c`. -/
theorem compute_ok (c : Fin 8) {Q : PUnit → sProp 𝕄} :
    iprop(lAt m d ∗ rAt m d ∗ (∃ v, accAt d c v) ∗ (∃ v, sndAt d false c v))
      ⊢ iprop(((lAt m d ∗ rAt m d ∗ accAt d c (pV m d c) ∗ sndAt d false c (msg m d false c)) -∗ Q ⟨⟩)
        -∗ wp frame (wpE (defs₀ (F := F)) 𝒱₀ d none) Set.univ (compute c) Q) := by
  unfold compute
  simp only [Prog.lift, Prog.bind_op, Prog.bind_ret, Prog.pure_eq_ret]
  iintro ⟨HL, HR, ⟨%v1, Ha⟩, %v2, Hs⟩ Hk
  iapply (load_of d mL (lchunk c) (lV m d)) $$ HL; iintro HL
  iapply (load_of d mR rall (rV m d)) $$ HR; iintro HR
  rw [rall_emb]
  iapply (load_at d mAcc (chunk c) (fun _ => rfl) v1) $$ Ha; iintro Ha
  iapply (store_at d mAcc (chunk c) (fun _ => rfl) v1 (pV m d c)) $$ Ha; iintro Ha
  iapply (load_at d (snd false) (chunk c) (fun _ => rfl) v2) $$ Hs; iintro Hs
  iapply (store_at d (snd false) (chunk c) (fun _ => rfl) v2 (pB m d c)) $$ Hs; iintro Hs
  rw [wp_ret]; imodintro
  iapply Hk
  isplitl [HL]; · iexact HL
  isplitl [HR]; · iexact HR
  isplitl [Ha]; · iexact Ha
  iexact Hs

/-- The sum of chunk `c` with the neighbour's. -/
theorem addUp_ok (c : Fin 8) {Q : PUnit → sProp 𝕄} :
    iprop(accAt d c (pV m d c) ∗ rcvAt d false c (msg m (peer d false) false c) ∗ (∃ v, ownAt d c v) ∗ (∃ v, sndAt d true c v))
      ⊢ iprop(((accAt d c (pV m d c) ∗ rcvAt d false c (msg m (peer d false) false c) ∗ ownAt d c (sV m d c) ∗ sndAt d true c (msg m d true c)) -∗ Q ⟨⟩)
        -∗ wp frame (wpE (defs₀ (F := F)) 𝒱₀ d none) Set.univ (addUp d c) Q) := by
  unfold addUp
  simp only [Prog.lift, Prog.bind_op, Prog.bind_ret, Prog.pure_eq_ret]
  iintro ⟨Ha, Hr, ⟨%v1, Ho⟩, %v2, Hs⟩ Hk
  iapply (load_at d mAcc (chunk c) (fun _ => rfl) (pV m d c)) $$ Ha; iintro Ha
  iapply (load_at d (rcv false) (chunk c) (fun _ => rfl) (msg m (peer d false) false c)) $$ Hr; iintro Hr
  iapply (load_at d mO (own d c) (fun _ => rfl) v1) $$ Ho; iintro Ho
  iapply (store_at d mO (own d c) (fun _ => rfl) v1 (sV m d c)) $$ Ho; iintro Ho
  iapply (load_at d (snd true) (chunk c) (fun _ => rfl) v2) $$ Hs; iintro Hs
  iapply (store_at d (snd true) (chunk c) (fun _ => rfl) v2 (sB m d c)) $$ Hs; iintro Hs
  rw [wp_ret]; imodintro
  iapply Hk
  isplitl [Ha]; · iexact Ha
  isplitl [Hr]; · iexact Hr
  isplitl [Ho]; · iexact Ho
  iexact Hs

/-- The received rows of chunk `c` put into the result. -/
theorem place_ok (c : Fin 8) {Q : PUnit → sProp 𝕄} :
    iprop(rcvAt d true c (msg m (peer d true) true c) ∗ (∃ v, othAt d c v))
      ⊢ iprop(((rcvAt d true c (msg m (peer d true) true c) ∗ othAt d c (oV m d c)) -∗ Q ⟨⟩)
        -∗ wp frame (wpE (defs₀ (F := F)) 𝒱₀ d none) Set.univ (place d c) Q) := by
  unfold place
  simp only [Prog.lift, Prog.bind_op, Prog.bind_ret, Prog.pure_eq_ret]
  iintro ⟨Hr, %v1, Ho⟩ Hk
  iapply (load_at d (rcv true) (chunk c) (fun _ => rfl) (msg m (peer d true) true c)) $$ Hr; iintro Hr
  iapply (load_at d mO (oth d c) (fun _ => rfl) v1) $$ Ho; iintro Ho
  iapply (store_at d mO (oth d c) (fun _ => rfl) v1 (oV m d c)) $$ Ho; iintro Ho
  rw [wp_ret]; imodintro
  iapply Hk
  isplitl [Hr]; · iexact Hr
  iexact Ho

/-! ## A chunk's stages -/

/-- What the second exchange needs, before it. -/
def Tail (c : Fin 8) : sProp 𝕄 := iprop(Idle d true c ∗ (∃ v, ownAt d c v) ∗ (∃ v, sndAt d true c v) ∗ ∃ v, othAt d c v)

/-- What device `d` holds for chunk `c` at each stage. -/
def St (c : Fin 8) : ℕ → sProp 𝕄
  | 0 => iprop(Idle d false c ∗ (∃ v, accAt d c v) ∗ (∃ v, sndAt d false c v) ∗ Tail d c)
  | 1 => iprop(Idle d false c ∗ accAt d c (pV m d c) ∗ sndAt d false c (msg m d false c) ∗ Tail d c)
  | 2 => iprop(Fly d false c ∗ accAt d c (pV m d c) ∗ Tail d c)
  | 3 => iprop(Over m d false c ∗ accAt d c (pV m d c) ∗ Tail d c)
  | 4 => iprop(Over m d false c ∗ accAt d c (pV m d c) ∗ ownAt d c (sV m d c) ∗ Idle d true c ∗ sndAt d true c (msg m d true c) ∗ ∃ v, othAt d c v)
  | 5 => iprop(Over m d false c ∗ accAt d c (pV m d c) ∗ ownAt d c (sV m d c) ∗ Fly d true c ∗ ∃ v, othAt d c v)
  | 6 => iprop(Over m d false c ∗ accAt d c (pV m d c) ∗ ownAt d c (sV m d c) ∗ Over m d true c ∗ ∃ v, othAt d c v)
  | _ => iprop(Over m d false c ∗ accAt d c (pV m d c) ∗ ownAt d c (sV m d c) ∗ Over m d true c ∗ othAt d c (oV m d c))

/-- What it holds when each chunk `c` is at stage `σ c`. -/
def Inv (σ : Fin 8 → ℕ) : sProp 𝕄 :=
  iprop(lAt m d ∗ rAt m d ∗ owing d (debts d σ) ∗ bigSep Finset.univ fun c => St m d c (σ c))

/-- One chunk taken out of the whole, to be put back at any stage. -/
theorem focus (σ : Fin 8 → ℕ) (c : Fin 8) (s : ℕ) :
    (bigSep Finset.univ fun c => St m d c (σ c))
      ⊢ iprop(St m d c (σ c) ∗ (St m d c s -∗ bigSep Finset.univ fun c' => St m d c' (Function.update σ c s c'))) := by
  rw [bigSep_univ_at (fun c => St m d c (σ c)) c, bigSep_univ_at (fun c' => St m d c' (Function.update σ c s c')) c,
    Function.update_self]
  rw [bigSep_congr (Φ := fun c' => St m d c' (Function.update σ c s c')) (Ψ := fun c' => St m d c' (σ c'))
    fun c' hc' => by rw [Function.update_of_ne (Finset.ne_of_mem_erase hc')]]
  iintro ⟨H, Hr⟩
  isplitl [H]; · iexact H
  iintro H
  isplitl [H]; · iexact H
  iexact Hr

/-! ## The steps in any order that respects the stages -/

/-- The stage a step starts from. -/
def Step.need : Step → ℕ
  | .compute => 0 | .xstart => 1 | .xwait => 2 | .finish => 3 | .ystart => 4 | .ywait => 5 | .place => 6
/-- When a step may run: its chunk is at its stage, and nothing still owed lies below what it waits for. -/
def Step.Ok (σ : Fin 8 → ℕ) : Step → Fin 8 → Prop
  | .xwait, c => σ c = 2 ∧ Below (2 + c.val) σ
  | .ywait, c => σ c = 5 ∧ Below (10 + c.val) σ
  | s, c => σ c = s.need
instance (σ : Fin 8 → ℕ) (s : Step) (c : Fin 8) : Decidable (s.Ok σ c) := by
  cases s <;> unfold Step.Ok <;> infer_instance

/-- The debts split off one chunk's. -/
theorem debts_at (σ : Fin 8 → ℕ) (c : Fin 8) : debts d σ = (∑ c' ∈ Finset.univ.erase c, debt d c' (σ c')) + debt d c (σ c) := by
  have h := debts_update d σ c (σ c); rwa [Function.update_eq_self] at h
/-- A step that sends nothing leaves the debts. -/
theorem debts_same (σ : Fin 8 → ℕ) (c : Fin 8) (s : ℕ) (h : debt d c s = debt d c (σ c)) : debts d (Function.update σ c s) = debts d σ := by
  rw [debts_update, debts_at d σ c, h]
theorem debts_x (σ : Fin 8 → ℕ) (c : Fin 8) (h : σ c = 1) :
    debts d σ = debts d (Function.update σ c 2) + tallyAt (rcvCell (peer d false) false c) () N := by
  rw [debts_at d σ c, debts_update, h, add_assoc]; congr 1
  unfold debt; rw [if_pos (by decide), if_pos (by decide), if_neg (by decide), zero_add, add_comm, if_pos (by decide)]
theorem debts_y (σ : Fin 8 → ℕ) (c : Fin 8) (h : σ c = 4) :
    debts d σ = debts d (Function.update σ c 5) + tallyAt (rcvCell (peer d true) true c) () N := by
  rw [debts_at d σ c, debts_update, h, add_assoc]; congr 1
  unfold debt; rw [if_neg (by decide), if_pos (by decide), if_neg (by decide), if_neg (by decide), zero_add, zero_add, zero_add]

theorem step_ok (σ : Fin 8 → ℕ) (s : Step) (c : Fin 8) (h : s.Ok σ c) {Q : PUnit → sProp 𝕄} :
    iprop((recs m K ∗ levAts L lv) ∗ Inv m d σ)
      ⊢ iprop((Inv m d (Function.update σ c (s.need + 1)) -∗ Q ⟨⟩)
        -∗ wp frame (wpE (defs₀ (F := F)) 𝒱₀ d none) Set.univ (s.prog d c) Q) := by
  unfold Inv
  iintro ⟨⟨#Hr, #Hl⟩, HL, HR, HO, Hst⟩ Hk
  ihave Hf := (focus m d σ c (s.need + 1)) $$ Hst
  icases Hf with ⟨Hc, Hback⟩
  cases s with
  | compute =>
    have h0 : σ c = 0 := h
    rw [debts_same d σ c (Step.compute.need + 1) (by rw [h0]; rfl), h0]
    simp only [St, Step.need, Step.prog]
    icases Hc with ⟨Hi, Ha, Hs, Ht⟩
    iapply (compute_ok m d c) $$ [HL HR Ha Hs]
    · isplitl [HL]; · iexact HL
      isplitl [HR]; · iexact HR
      isplitl [Ha]; · iexact Ha
      iexact Hs
    iintro ⟨HL, HR, Ha, Hs⟩
    iapply Hk
    isplitl [HL]; · iexact HL
    isplitl [HR]; · iexact HR
    isplitl [HO]; · iexact HO
    iapply Hback
    isplitl [Hi]; · iexact Hi
    isplitl [Ha]; · iexact Ha
    isplitl [Hs]; · iexact Hs
    iexact Ht
  | xstart =>
    have h0 : σ c = 1 := h
    rw [debts_x d σ c h0, h0]
    simp only [St, Step.need, Step.prog]
    icases Hc with ⟨Hi, Ha, Hs, Ht⟩
    iapply (start_ok m K d false c (debts d (Function.update σ c 2))) $$ [HO Hi Hs]
    · isplitr; · iexact Hr
      isplitl [Hi]; · iexact Hi
      isplitl [Hs]; · iexact Hs
      iexact HO
    iintro ⟨Hf, HO⟩
    iapply Hk
    isplitl [HL]; · iexact HL
    isplitl [HR]; · iexact HR
    isplitl [HO]; · iexact HO
    iapply Hback
    isplitl [Hf]; · iexact Hf
    isplitl [Ha]; · iexact Ha
    iexact Ht
  | xwait =>
    have h0 : σ c = 2 := h.1
    rw [debts_same d σ c (Step.xwait.need + 1) (by rw [h0]; rfl), h0]
    simp only [St, Step.need, Step.prog]
    icases Hc with ⟨Hf, Ha, Ht⟩
    iapply (await_ok m K d false c σ (by rw [lv_rcv_x]; exact h.2)) $$ [HO Hf]
    · isplitr; · iexact Hr
      isplitr; · iexact Hl
      isplitl [Hf]; · iexact Hf
      iexact HO
    iintro ⟨Hf, HO⟩
    iapply Hk
    isplitl [HL]; · iexact HL
    isplitl [HR]; · iexact HR
    isplitl [HO]; · iexact HO
    iapply Hback
    isplitl [Hf]; · iexact Hf
    isplitl [Ha]; · iexact Ha
    iexact Ht
  | finish =>
    have h0 : σ c = 3 := h
    rw [debts_same d σ c (Step.finish.need + 1) (by rw [h0]; rfl), h0]
    simp only [St, Step.need, Step.prog]
    unfold Over Tail
    icases Hc with ⟨⟨Hp1, Hp2, Hs, Hd⟩, Ha, Hi, Ho, Hs2, Hh⟩
    iapply (addUp_ok m d c) $$ [Ha Hd Ho Hs2]
    · isplitl [Ha]; · iexact Ha
      isplitl [Hd]; · iexact Hd
      isplitl [Ho]; · iexact Ho
      iexact Hs2
    iintro ⟨Ha, Hd, Ho, Hs2⟩
    iapply Hk
    isplitl [HL]; · iexact HL
    isplitl [HR]; · iexact HR
    isplitl [HO]; · iexact HO
    iapply Hback
    isplitl [Hp1 Hp2 Hs Hd]
    · isplitl [Hp1]; · iexact Hp1
      isplitl [Hp2]; · iexact Hp2
      isplitl [Hs]; · iexact Hs
      iexact Hd
    isplitl [Ha]; · iexact Ha
    isplitl [Ho]; · iexact Ho
    isplitl [Hi]; · iexact Hi
    isplitl [Hs2]; · iexact Hs2
    iexact Hh
  | ystart =>
    have h0 : σ c = 4 := h
    rw [debts_y d σ c h0, h0]
    simp only [St, Step.need, Step.prog]
    icases Hc with ⟨Hv, Ha, Ho, Hi, Hs, Hh⟩
    iapply (start_ok m K d true c (debts d (Function.update σ c 5))) $$ [HO Hi Hs]
    · isplitr; · iexact Hr
      isplitl [Hi]; · iexact Hi
      isplitl [Hs]; · iexact Hs
      iexact HO
    iintro ⟨Hf, HO⟩
    iapply Hk
    isplitl [HL]; · iexact HL
    isplitl [HR]; · iexact HR
    isplitl [HO]; · iexact HO
    iapply Hback
    isplitl [Hv]; · iexact Hv
    isplitl [Ha]; · iexact Ha
    isplitl [Ho]; · iexact Ho
    isplitl [Hf]; · iexact Hf
    iexact Hh
  | ywait =>
    have h0 : σ c = 5 := h.1
    rw [debts_same d σ c (Step.ywait.need + 1) (by rw [h0]; rfl), h0]
    simp only [St, Step.need, Step.prog]
    icases Hc with ⟨Hv, Ha, Ho, Hf, Hh⟩
    iapply (await_ok m K d true c σ (by rw [lv_rcv_y]; exact h.2)) $$ [HO Hf]
    · isplitr; · iexact Hr
      isplitr; · iexact Hl
      isplitl [Hf]; · iexact Hf
      iexact HO
    iintro ⟨Hf, HO⟩
    iapply Hk
    isplitl [HL]; · iexact HL
    isplitl [HR]; · iexact HR
    isplitl [HO]; · iexact HO
    iapply Hback
    isplitl [Hv]; · iexact Hv
    isplitl [Ha]; · iexact Ha
    isplitl [Ho]; · iexact Ho
    isplitl [Hf]; · iexact Hf
    iexact Hh
  | place =>
    have h0 : σ c = 6 := h
    rw [debts_same d σ c (Step.place.need + 1) (by rw [h0]; rfl), h0]
    simp only [St, Step.need, Step.prog]
    icases Hc with ⟨Hv, Ha, Ho, Hw, Hh⟩
    ihave Hw' := (show Over m d true c ⊢ iprop(atPos ER (sndCell d true c) 1 ∅ 0 ∗ atPos ER (rcvCell d true c) 1 ∅ 0
      ∗ sndAt d true c (msg m d true c) ∗ rcvAt d true c (msg m (peer d true) true c)) from Entails.of_eq rfl) $$ Hw
    icases Hw' with ⟨Hp1, Hp2, Hs, Hd⟩
    iapply (place_ok m d c) $$ [Hd Hh]
    · isplitl [Hd]; · iexact Hd
      iexact Hh
    iintro ⟨Hd, Hh⟩
    iapply Hk
    isplitl [HL]; · iexact HL
    isplitl [HR]; · iexact HR
    isplitl [HO]; · iexact HO
    iapply Hback
    isplitl [Hv]; · iexact Hv
    isplitl [Ha]; · iexact Ha
    isplitl [Ho]; · iexact Ho
    isplitr [Hh]
    · unfold Over
      isplitl [Hp1]; · iexact Hp1
      isplitl [Hp2]; · iexact Hp2
      isplitl [Hs]; · iexact Hs
      iexact Hd
    iexact Hh

/-- The stages after a list of steps, if each may run in its turn. -/
def after : List (Step × Fin 8) → (Fin 8 → ℕ) → Option (Fin 8 → ℕ)
  | [], σ => some σ
  | s :: l, σ => if s.1.Ok σ s.2 then after l (Function.update σ s.2 (s.1.need + 1)) else none

/-- A list of steps each of which may run in its turn takes the chunks to the stages it says. -/
theorem run_ok : ∀ (l : List (Step × Fin 8)) (σ σ' : Fin 8 → ℕ), after l σ = some σ' → ∀ {Q : PUnit → sProp 𝕄},
    iprop((recs m K ∗ levAts L lv) ∗ Inv m d σ)
      ⊢ iprop((Inv m d σ' -∗ Q ⟨⟩) -∗ wp frame (wpE (defs₀ (F := F)) 𝒱₀ d none) Set.univ (run d l) Q) := by
  intro l
  induction l with
  | nil =>
    intro σ σ' h Q
    have e : σ = σ' := Option.some.inj h
    subst e
    show _ ⊢ iprop(_ -∗ wp frame (wpE (defs₀ (F := F)) 𝒱₀ d none) Set.univ (.ret ⟨⟩) Q)
    rw [wp_ret]
    iintro ⟨-, H⟩ Hk
    imodintro
    iapply Hk; iexact H
  | cons s l ih =>
    intro σ σ' h Q
    unfold after at h
    by_cases hok : s.1.Ok σ s.2
    · rw [if_pos hok] at h
      show _ ⊢ iprop(_ -∗ wp frame (wpE (defs₀ (F := F)) 𝒱₀ d none) Set.univ (s.1.prog d s.2 >>= fun _ => run d l) Q)
      rw [wp_bind]
      iintro ⟨⟨#Hr, #Hl⟩, H⟩ Hk
      iapply (step_ok m K d σ s.1 s.2 hok) $$ [H]
      · isplitr
        · isplitr; · iexact Hr
          iexact Hl
        iexact H
      iintro H
      iapply (ih _ σ' h) $$ [H]
      · isplitr
        · isplitr; · iexact Hr
          iexact Hl
        iexact H
      iexact Hk
    · rw [if_neg hok] at h; exact absurd h (by simp)

set_option maxRecDepth 100000 in
/-- The body's order takes every chunk through all its stages. -/
theorem order_after : after order (fun _ => 0) = some (fun _ => 7) := by decide +kernel

end Steps

end Cert.KernelIdeal.MM

end
-- ==== Proof.Whole.lean ====
/- The body as a whole: the handshake, the operands staged, the chunks' steps in the program's order, and every buffer
   whole again at the end, the result among them with all its chunks placed. -/
module

public import proofs.«01_k».proof.Proof.Body

@[expose] public section

noncomputable section

namespace Cert.KernelIdeal.MM

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

/-! ## Families by direction, and over a device's cells -/

theorem bool_split (Φ : Bool → sProp 𝕄) : bigSep Finset.univ Φ = iprop(Φ false ∗ Φ true) :=
  bigSep_univ_eq_bigSepL [false, true] (by decide) (by decide) Φ

/-- A device's cells: the barrier's and the transfers'. -/
theorem cells_some (Φ : Kk → sProp 𝕄) : bigSep Finset.univ Φ
    = iprop(Φ none ∗ bigSep Finset.univ fun k : Bool × Bool × Fin 8 => Φ (some k)) := by
  rw [bigSep_univ_equiv (Equiv.optionEquivSumPUnit.{0} (Bool × Bool × Fin 8)).symm, bigSep_univ_sum]
  have h0 : bigSep Finset.univ (fun b : PUnit.{1} => Φ ((Equiv.optionEquivSumPUnit.{0} (Bool × Bool × Fin 8)).symm (.inr b))) = Φ none :=
    bigSep_univ_eq_bigSepL [PUnit.unit] (by decide) (by decide) _
  rw [h0]
  exact BI.equiv_iff.mp ⟨Idealize.SL.BI.sep_comm, Idealize.SL.BI.sep_comm⟩

/-- The transfers' cells: for each direction and chunk the departure's and the arrival's. -/
theorem moves_split (Ψ : Bool × Bool × Fin 8 → sProp 𝕄) : bigSep Finset.univ Ψ
    = bigSep Finset.univ fun a : Bool => bigSep Finset.univ fun c : Fin 8 => iprop(Ψ (a, false, c) ∗ Ψ (a, true, c)) := by
  rw [bigSep_univ_prod]
  exact bigSep_congr fun a _ => by rw [bigSep_univ_prod, bool_split, bigSep_sep']

theorem cells_split (Φ : Kk → sProp 𝕄) : bigSep Finset.univ Φ
    = iprop(Φ none ∗ bigSep Finset.univ fun a : Bool => bigSep Finset.univ fun c : Fin 8 => iprop(Φ (some (a, false, c)) ∗ Φ (some (a, true, c)))) := by
  rw [cells_some, moves_split]

/-- A persistent fact is given to every member of a family. -/
theorem family_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

/-! ## What a device starts from -/

section Device
variable (K : Dev nD × Kk → ℕ) (d : Dev nD)

/-- For one exchange: the tokens of the two duties it pays, and its own positions. -/
def Kit (a : Bool) (c : Fin 8) : sProp 𝕄 :=
  iprop(dutyTok ER (sndCell d a c) 0 false ∗ dutyTok ER (rcvCell (peer d a) a c) 0 false
    ∗ atPos ER (sndCell d a c) 0 ∅ 0 ∗ atPos ER (rcvCell d a c) 0 ∅ 0)

/-- Everything of the protocol's that is the device's own. -/
def linear : sProp 𝕄 :=
  iprop(atPos ER (barCell d) 0 ∅ 0 ∗ (bigSep Finset.univ fun b : Bool => dutyTok ER (barCell (peer d b)) 0 b)
    ∗ bigSep Finset.univ fun a : Bool => bigSep Finset.univ fun c : Fin 8 => Kit d a c)

/-- The credits of its barrier and its arrivals. -/
def credits : sProp 𝕄 :=
  iprop(cred (tallyAt (barCell d) () 2)
    ∗ bigSep Finset.univ fun a : Bool => bigSep Finset.univ fun c : Fin 8 => cred (tallyAt (rcvCell d a c) () N))

/-- Its scratch buffers, at any contents. -/
def bufs : sProp 𝕄 :=
  iprop((∃ X, owns (d : Thread nD τ) mL fullShare X) ∗ (∃ X, owns (d : Thread nD τ) mR fullShare X) ∗ (∃ X, owns (d : Thread nD τ) mAcc fullShare X)
    ∗ (∃ X, owns (d : Thread nD τ) (snd false) fullShare X) ∗ (∃ X, owns (d : Thread nD τ) (rcv false) fullShare X)
    ∗ (∃ X, owns (d : Thread nD τ) (snd true) fullShare X) ∗ (∃ X, owns (d : Thread nD τ) (rcv true) fullShare X))

/-- The positions and tokens of one direction, the rows the neighbour handed over and the credits are all that the
    direction's exchanges start from. -/
theorem idle_all (a : Bool) :
    iprop((bigSep Finset.univ fun c : Fin 8 => Kit d a c) ∗ barPay d a ∗ bigSep Finset.univ fun c : Fin 8 => cred (tallyAt (rcvCell d a c) () N))
      ⊢ (bigSep Finset.univ fun c : Fin 8 => Idle d a c : sProp 𝕄) := by
  unfold barPay
  rw [← bigSep_sep', ← bigSep_sep']
  refine bigSep_mono fun c _ => ?_
  unfold Kit Idle
  show (_ : sProp 𝕄) ⊢ _
  iintro ⟨⟨H1, H2, H3, H4⟩, H5, H6⟩
  isplitl [H1]; · iexact H1
  isplitl [H2]; · iexact H2
  isplitl [H5]; · iexact H5
  isplitl [H3]; · iexact H3
  isplitl [H4]; · iexact H4
  iexact H6

/-- All chunks at stage 0, from each of their parts. -/
theorem st_zero :
    iprop((bigSep Finset.univ fun c : Fin 8 => Idle d false c) ∗ (bigSep Finset.univ fun c : Fin 8 => iprop(∃ v, accAt d c v))
        ∗ (bigSep Finset.univ fun c : Fin 8 => iprop(∃ v, sndAt d false c v)) ∗ (bigSep Finset.univ fun c : Fin 8 => Idle d true c)
        ∗ (bigSep Finset.univ fun c : Fin 8 => iprop(∃ v, ownAt d c v)) ∗ (bigSep Finset.univ fun c : Fin 8 => iprop(∃ v, sndAt d true c v))
        ∗ bigSep Finset.univ fun c : Fin 8 => iprop(∃ v, othAt d c v))
      ⊢ (bigSep Finset.univ fun c : Fin 8 => St m d c 0 : sProp 𝕄) := by
  rw [← bigSep_sep', ← bigSep_sep', ← bigSep_sep', ← bigSep_sep', ← bigSep_sep', ← bigSep_sep']
  exact bigSep_mono fun c _ => (show (_ : sProp 𝕄) ⊢ _ from Entails.of_eq rfl)

/-- The result, cut into the chunks the device sums and those it receives. -/
theorem out_split (X : S768x768.Idx → Elt F .f32) :
    (owns (d : Thread nD τ) mO fullShare X : sProp 𝕄)
      ⊢ iprop((bigSep Finset.univ fun c : Fin 8 => iprop(∃ v, ownAt d c v)) ∗ bigSep Finset.univ fun c : Fin 8 => iprop(∃ v, othAt d c v)) := by
  refine (owns_rects (d : Thread nD τ) mO fullShare (outR d) (fun t a => by rcases t with ⟨_ | _, c⟩ <;> rfl) (outR_disj d) (outR_cover d) X).trans ?_
  rw [bigSep_univ_prod, bool_split]
  refine Idealize.SL.BI.sep_mono (bigSep_mono fun c _ => ?_) (bigSep_mono fun c _ => ?_)
  · exact exists_intro (Φ := fun v => (ownAt d c v : sProp 𝕄)) _
  · exact exists_intro (Φ := fun v => (othAt d c v : sProp 𝕄)) _

/-- The result's value: the sums at the device's own chunks, the received rows at the others. -/
def outV : FVec F S768x768 .f32 := glue (outR d) (outR_cover d) fun t => match t with
  | (false, c) => sV m d c
  | (true, c) => oV m d c

/-- The chunks placed make that value. -/
theorem out_join :
    iprop((bigSep Finset.univ fun c : Fin 8 => ownAt d c (sV m d c)) ∗ bigSep Finset.univ fun c : Fin 8 => othAt d c (oV m d c))
      ⊢ (owns (d : Thread nD τ) mO fullShare (outV m d) : sProp 𝕄) := by
  haveI := elt_nonempty (F := F)
  refine BIBase.Entails.trans ?_ (owns_of_rects (Ix := Unit) (Name := ℕ) (U := UU) (Lvl := ℕ) (Val := Elt F) (d : Thread nD τ) mO fullShare (outR d) (fun t a => by rcases t with ⟨_ | _, c⟩ <;> rfl) (outR_disj d) (outR_cover d) (outV m d))
  rw [bigSep_univ_prod, bool_split]
  refine Idealize.SL.BI.sep_mono (bigSep_mono fun c _ => (show (_ : sProp 𝕄) ⊢ _ from Entails.of_eq ?_)) (bigSep_mono fun c _ => (show (_ : sProp 𝕄) ⊢ _ from Entails.of_eq ?_))
  · have h : (fun j => outV m d ((outR d (false, c)).emb j)) = sV m d c := funext fun j => glue_emb (outR d) (outR_cover d) (outR_disj d) _ (false, c) j
    exact congrArg (fun v => (ownAt d c v : sProp 𝕄)) h.symm
  · have h : (fun j => outV m d ((outR d (true, c)).emb j)) = oV m d c := funext fun j => glue_emb (outR d) (outR_cover d) (outR_disj d) _ (true, c) j
    exact congrArg (fun v => (othAt d c v : sProp 𝕄)) h.symm

/-- All chunks at the last stage, taken apart. -/
theorem st_last :
    (bigSep Finset.univ fun c : Fin 8 => St m d c 7 : sProp 𝕄)
      ⊢ iprop((bigSep Finset.univ fun c : Fin 8 => Over m d false c) ∗ (bigSep Finset.univ fun c : Fin 8 => accAt d c (pV m d c))
        ∗ (bigSep Finset.univ fun c : Fin 8 => ownAt d c (sV m d c)) ∗ (bigSep Finset.univ fun c : Fin 8 => Over m d true c)
        ∗ bigSep Finset.univ fun c : Fin 8 => othAt d c (oV m d c)) := by
  rw [← bigSep_sep', ← bigSep_sep', ← bigSep_sep', ← bigSep_sep']
  exact bigSep_mono fun c _ => (show (_ : sProp 𝕄) ⊢ _ from Entails.of_eq rfl)

/-- A direction's exchanges over: its positions at round 1, its two buffers whole again. -/
theorem over_all (a : Bool) :
    (bigSep Finset.univ fun c : Fin 8 => Over m d a c)
      ⊢ iprop((bigSep Finset.univ fun c : Fin 8 => iprop(atPos ER (sndCell d a c) 1 ∅ 0 ∗ atPos ER (rcvCell d a c) 1 ∅ 0))
        ∗ (∃ X, owns (d : Thread nD τ) (snd a) fullShare X) ∗ (∃ X, owns (d : Thread nD τ) (rcv a) fullShare X)) := by
  unfold Over
  rw [bigSep_sep', bigSep_sep', bigSep_sep', bigSep_sep']
  iintro ⟨H1, H2, H3, H4⟩
  isplitl [H1 H2]
  · isplitl [H1] <;> iassumption
  isplitl [H3]
  · iapply (chunks_join d (snd a) (fun c => msg m d a c)); iexact H3
  · iapply (chunks_join d (rcv a) (fun c => msg m (peer d a) a c)); iexact H4

/-- At round 1 every cell of the device is closed, its counter at zero. -/
theorem close_all :
    iprop(recs m K ∗ bigSep Finset.univ fun k : Kk => atPos ER (kcell (d, k)) 1 ∅ 0)
      ⊢ (|={Set.univ}=> bigSep Finset.univ fun k : Kk => semVal (kcell (d, k)) 0 : sProp 𝕄) := by
  refine BIBase.Entails.trans ?_ (Rounds.cells_close ER (Rd m) Finset.univ (fun k : Kk => kcell (d, k)) (fun k => K (d, k))
    (fun _ _ => Set.mem_univ _) (fun _ _ h => h) (fun _ => 1) (fun k _ => duties_later m (kcell (d, k))))
  refine family_with fun k _ => ?_
  show (_ : sProp 𝕄) ⊢ _
  iintro ⟨#Hr, H⟩
  isplitr
  · iapply (inv_at m K (d, k)); iexact Hr
  · iexact H

/-! ## The handshake and the operands -/

/-- The rectangle that is all of an operand's buffer covers it and reads it as it is. -/
theorem lall_emb (X : S384x384.Idx → Elt F .bf16) : (fun j => X (lall.emb j)) = X :=
  Memref.readAt_unit_zero (Elt F) cc0_scratch0 zero_off _ X
theorem rall_emb' (X : S384x768.Idx → Elt F .f32) : (fun j => X (rall.emb j)) = X :=
  Memref.readAt_unit_zero (Elt F) cc0_stg1_0 zero_off _ X
theorem lall_set : lall.set = Finset.univ := Finset.eq_univ_of_forall fun i => Rect.mem_set_unit.mpr fun a => by
  fin_cases a
  · exact ⟨Nat.zero_le _, lt_of_lt_of_eq (i 0).isLt (Nat.zero_add 384).symm⟩
  · exact ⟨Nat.zero_le _, lt_of_lt_of_eq (i 1).isLt (Nat.zero_add 384).symm⟩
theorem rall_set : rall.set = Finset.univ := Finset.eq_univ_of_forall fun i => Rect.mem_set_unit.mpr fun a => by
  fin_cases a
  · exact ⟨Nat.zero_le _, lt_of_lt_of_eq (i 0).isLt (Nat.zero_add 384).symm⟩
  · exact ⟨Nat.zero_le _, lt_of_lt_of_eq (i 1).isLt (Nat.zero_add 768).symm⟩

/-- The first part of the body: a signal to each neighbour with the receive buffer it will write to, the wait for both
    neighbours', and the operands rounded into their buffers. -/
theorem prelude_ok {Q : PUnit → sProp 𝕄} :
    iprop(recs m K ∗ levAts L lv ∗ atPos ER (barCell d) 0 ∅ 0 ∗ dutyTok ER (barCell (peer d false)) 0 false ∗ dutyTok ER (barCell (peer d true)) 0 true
        ∗ cred (tallyAt (barCell d) () 2) ∗ owing d (O₀ d)
        ∗ (∃ X, owns (d : Thread nD τ) (rcv false) fullShare X) ∗ (∃ X, owns (d : Thread nD τ) (rcv true) fullShare X)
        ∗ owns (d : Thread nD τ) mA fullShare (aV m d) ∗ owns (d : Thread nD τ) mB fullShare (bV m d)
        ∗ (∃ X, owns (d : Thread nD τ) mL fullShare X) ∗ (∃ X, owns (d : Thread nD τ) mR fullShare X))
      ⊢ iprop(((atPos ER (barCell d) 1 ∅ 0 ∗ barPay d false ∗ barPay d true ∗ owing d (debts d fun _ => 0)
            ∗ owns (d : Thread nD τ) mA fullShare (aV m d) ∗ owns (d : Thread nD τ) mB fullShare (bV m d) ∗ lAt m d ∗ rAt m d) -∗ Q ⟨⟩)
        -∗ wp frame (wpE (defs₀ (F := F)) 𝒱₀ d none) Set.univ (prelude d) Q) := by
  unfold prelude owing
  simp only [semSignalWord, semWaitWord, Prog.lift, Prog.bind_op, Prog.bind_ret, Prog.pure_eq_ret, dev1_eq d, dev2_eq d]
  iintro ⟨#Hr, #Hl, Hat, Ht1, Ht2, Hc, ⟨%W, HO⟩, ⟨%X1, Hr1⟩, ⟨%X2, Hr2⟩, HA, HB, ⟨%XL, HL⟩, %XR, HR⟩ Hk
  ihave #Hi0 := (inv_at m K (d, none)) $$ Hr
  ihave #Hi1 := (inv_at m K (peer d false, none)) $$ Hr
  ihave #Hi2 := (inv_at m K (peer d true, none)) $$ Hr
  ihave #Hb1 := (reached_at m K (peer d false, none)) $$ Hr
  ihave #Hb2 := (reached_at m K (peer d true, none)) $$ Hr
  iapply (Rounds.wp_signal 𝒱₀ ER (Rd m) (d : Thread nD τ) none (dst := (peer d false : Thread nD τ)) (κ := K (peer d false, none))
      (d := false) (by rw [duties_bar]; exact Finset.mem_univ _) ((amount_bar m (peer d false) false).trans (by decide)) () (O₁ d) rfl)
    $$ [HO Ht1 Hr1]
  · isplitr; · iexact Hi1
    isplitl [HO]; · iexact HO
    isplitl [Ht1]; · iexact Ht1
    isplitl [Hr1]
    · rw [payload_bar]; unfold barPay; rw [peer_peer]
      iapply (chunks_split d (rcv false) X1); iexact Hr1
    iexact Hb1
  iintro HO
  iapply (Rounds.wp_signal 𝒱₀ ER (Rd m) (d : Thread nD τ) none (dst := (peer d true : Thread nD τ)) (κ := K (peer d true, none))
      (d := true) (by rw [duties_bar]; exact Finset.mem_univ _) ((amount_bar m (peer d true) true).trans (by decide)) () (debts d fun _ => 0) rfl)
    $$ [HO Ht2 Hr2]
  · isplitr; · iexact Hi2
    isplitl [HO]; · iexact HO
    isplitl [Ht2]; · iexact Ht2
    isplitl [Hr2]
    · rw [payload_bar]; unfold barPay; rw [peer_peer]
      iapply (chunks_split d (rcv true) X2); iexact Hr2
    iexact Hb2
  iintro HO
  iapply (Rounds.wp_wait_rest_token 𝒱₀ ER (Rd m) (d : Thread nD τ) none (κ := K (d, none))
      (wpE_semWait_eq 𝒱₀ (d : Thread nD τ) none Set.univ) (Set.mem_univ _) () (O := debts d fun _ => 0) (W := W) (R := 0) (m := 0) (T := ∅)
      (by rw [expect_bar]; decide)) $$ [Hc HO Hat]
  · isplitr; · iexact Hi0
    isplitl [Hc]; · iexact Hc
    isplitl [HO]; · iexact HO
    isplitr; · iapply (mayWait_debts d (.reg barSem) (fun _ => 0) (by rw [lv_bar]; decide)); iexact Hl
    iexact Hat
  iintro ⟨HO, Hat, -, Hpay⟩
  ihave Hp := (Entails.of_eq (rest_bar m d)) $$ Hpay
  icases Hp with ⟨Hp1, Hp2⟩
  iapply (load_of d mA (arows d) (aV m d)) $$ HA; iintro HA
  iapply (load_of d mL lall XL) $$ HL; iintro HL
  iapply (store_of d mL lall XL _ (lV m d) (fun j => congrFun (lall_emb (lV m d)) j) lall_set) $$ HL; iintro HL
  iapply (load_of d mB rall (bV m d)) $$ HB; iintro HB
  rw [rall_emb']
  iapply (load_of d mR rall XR) $$ HR; iintro HR
  iapply (store_of d mR rall XR _ (rV m d) (fun j => congrFun (rall_emb (rV m d)) j) rall_set) $$ HR; iintro HR
  rw [wp_ret]; imodintro
  iapply Hk
  isplitl [Hat]; · iexact Hat
  isplitl [Hp1]; · iexact Hp1
  isplitl [Hp2]; · iexact Hp2
  isplitl [HO]; · iexists _; iexact HO
  isplitl [HA]; · iexact HA
  isplitl [HB]; · iexact HB
  isplitl [HL]; · iexact HL
  iexact HR

/-! ## The whole body -/

/-- The printed body on device `d`. -/
abbrev body : PG F :=
  cc0_body mA (Memref.isWhole_whole _) mB (Memref.isWhole_whole _) mO (Memref.isWhole_whole _) mL (Memref.isWhole_whole _) mR (Memref.isWhole_whole _)
    mAcc (Memref.isWhole_whole _) (snd false) (Memref.isWhole_whole _) (rcv false) (Memref.isWhole_whole _) (snd true) (Memref.isWhole_whole _)
    (rcv true) (Memref.isWhole_whole _) (sndSems false) (rcvSems false) (sndSems true) (rcvSems true)

/-- From its blocks, its buffers and its part of the protocol, the body leaves the result's value in place, owes nothing,
    and has every buffer whole and every counter at zero. -/
theorem body_ok {Q : PUnit → sProp 𝕄} :
    iprop(recs m K ∗ levAts L lv ∗ linear d ∗ credits d ∗ bufs d ∗ owing d (O₀ d)
        ∗ owns (d : Thread nD τ) mA fullShare (aV m d) ∗ owns (d : Thread nD τ) mB fullShare (bV m d) ∗ (∃ X, owns (d : Thread nD τ) mO fullShare X))
      ⊢ iprop((((bigSep Finset.univ fun k : Kk => semVal (kcell (d, k)) 0) ∗ bufs d ∗ owing d 0
            ∗ owns (d : Thread nD τ) mA fullShare (aV m d) ∗ owns (d : Thread nD τ) mB fullShare (bV m d)
            ∗ owns (d : Thread nD τ) mO fullShare (outV m d)) -∗ Q ⟨⟩)
        -∗ wp frame (wpE (defs₀ (F := F)) 𝒱₀ d none) Set.univ body Q) := by
  unfold body
  rw [body_eq]
  simp only [Prog.lift, Prog.bind_op, Prog.bind_ret, wp_deviceId]
  rw [wp_bind]
  unfold linear credits
  rw [bool_split, bool_split, bool_split]
  iintro ⟨#Hr, #Hl, ⟨Hat, ⟨Ht1, Ht2⟩, Hk1, Hk2⟩, ⟨Hc, Hc1, Hc2⟩, Hb, HO, HA, HB, %XO, HX⟩ Hk
  unfold bufs
  icases Hb with ⟨HL, HR, ⟨%Xacc, Hacc⟩, ⟨%Xs1, Hs1⟩, Hr1, ⟨%Xs2, Hs2⟩, Hr2⟩
  iapply (prelude_ok m K d) $$ [Hat Ht1 Ht2 Hc HO Hr1 Hr2 HA HB HL HR]
  · isplitr; · iexact Hr
    isplitr; · iexact Hl
    isplitl [Hat]; · iexact Hat
    isplitl [Ht1]; · iexact Ht1
    isplitl [Ht2]; · iexact Ht2
    isplitl [Hc]; · iexact Hc
    isplitl [HO]; · iexact HO
    isplitl [Hr1]; · iexact Hr1
    isplitl [Hr2]; · iexact Hr2
    isplitl [HA]; · iexact HA
    isplitl [HB]; · iexact HB
    isplitl [HL]; · iexact HL
    iexact HR
  iintro ⟨Hat, Hp1, Hp2, HO, HA, HB, HL, HR⟩
  ihave Hi1 := (idle_all (F := F) d false) $$ [Hk1 Hp1 Hc1]
  · isplitl [Hk1]; · iexact Hk1
    isplitl [Hp1]; · iexact Hp1
    iexact Hc1
  ihave Hi2 := (idle_all (F := F) d true) $$ [Hk2 Hp2 Hc2]
  · isplitl [Hk2]; · iexact Hk2
    isplitl [Hp2]; · iexact Hp2
    iexact Hc2
  ihave Hacc' := (chunks_split d mAcc Xacc) $$ Hacc
  ihave Hs1' := (chunks_split d (snd false) Xs1) $$ Hs1
  ihave Hs2' := (chunks_split d (snd true) Xs2) $$ Hs2
  ihave Hout := (out_split d XO) $$ HX
  icases Hout with ⟨Hown, Hoth⟩
  ihave Hst := (st_zero m d) $$ [Hi1 Hi2 Hacc' Hs1' Hs2' Hown Hoth]
  · isplitl [Hi1]; · iexact Hi1
    isplitl [Hacc']; · iexact Hacc'
    isplitl [Hs1']; · iexact Hs1'
    isplitl [Hi2]; · iexact Hi2
    isplitl [Hown]; · iexact Hown
    isplitl [Hs2']; · iexact Hs2'
    iexact Hoth
  iapply (wp_fupd frame (wpE (defs₀ (F := F)) 𝒱₀ (d : Thread nD τ) none) Set.univ _ _)
  iapply (run_ok m K d order (fun _ => 0) (fun _ => 7) order_after) $$ [HL HR HO Hst]
  · isplitr
    · isplitr; · iexact Hr
      iexact Hl
    unfold Inv
    isplitl [HL]; · iexact HL
    isplitl [HR]; · iexact HR
    isplitl [HO]; · iexact HO
    iexact Hst
  unfold Inv
  iintro ⟨HL, HR, HO, Hst⟩
  rw [debts_done]
  ihave Hl7 := (st_last m d) $$ Hst
  icases Hl7 with ⟨Ho1, Hacc, Hown, Ho2, Hoth⟩
  ihave H1 := (over_all m d false) $$ Ho1
  ihave H2 := (over_all m d true) $$ Ho2
  icases H1 with ⟨Hp1, Hs1, Hr1⟩
  icases H2 with ⟨Hp2, Hs2, Hr2⟩
  imod (close_all m K d) $$ [Hat Hp1 Hp2] with Hz
  · isplitr; · iexact Hr
    rw [cells_split, bool_split]
    isplitl [Hat]; · iexact Hat
    isplitl [Hp1]; · iexact Hp1
    iexact Hp2
  imodintro
  iapply Hk
  isplitl [Hz]; · iexact Hz
  isplitl [HL HR Hacc Hs1 Hr1 Hs2 Hr2]
  · isplitl [HL]; · iexists (lV m d); iexact HL
    isplitl [HR]; · iexists (rV m d); iexact HR
    isplitl [Hacc]; · iapply (chunks_join d mAcc (fun c => pV m d c)); iexact Hacc
    isplitl [Hs1]; · iexact Hs1
    isplitl [Hr1]; · iexact Hr1
    isplitl [Hs2]; · iexact Hs2
    iexact Hr2
  isplitl [HO]; · iexact HO
  isplitl [HA]; · iexact HA
  isplitl [HB]; · iexact HB
  iapply (out_join m d)
  isplitl [Hown]; · iexact Hown
  iexact Hoth

end Device

end Cert.KernelIdeal.MM

end
-- ==== Proof.Launch.lean ====
/- The launch: the protocol's resources dealt to the devices, what each device is owed at the start, and the run of the
   whole program from any memory with its counters at zero. -/
module

public import proofs.«01_k».proof.Proof.Whole
public import proofs.«01_k».proof.Proof.Gen.KernelIdeal.Points
public import Idealize.ShloMosaic.Lib.Pipeline.CollectiveSegs

@[expose] public section

noncomputable section

namespace Cert.KernelIdeal.MM

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- The memory at launch: any contents, counters at zero. -/
abbrev begin₀ : MemSt nD τ sig (Elt F) := ⟨m, fun _ => 0, ρ⟩

/-- What a device's body starts from, besides its buffers; then with them; and what it ends with. -/
def opening (d : Dev nD) : sProp 𝕄 := iprop((∃ K, recs m K ∗ linear d) ∗ credits d ∗ levAts L lv)
def Φ₀ (d : Dev nD) : sProp 𝕄 := iprop(opening m d ∗ bufs d)
def Φ₁ (d : Dev nD) : sProp 𝕄 := iprop((bigSep Finset.univ fun k : Kk => semVal (kcell (d, k)) 0) ∗ bufs d)

def dats (_ : Fin 1) (d : Dev nD) : Dat τ (Elt F) Unit ℕ UU ℕ cfg0 d where
  A w := (begin₀ m ρ).mem ((cfg0.win w).arr.view.loc (d : Thread nD τ))
  after w _ := match w with
    | ⟨0, _⟩ => aV m d
    | ⟨1, _⟩ => bV m d
    | ⟨2, _⟩ => outV m d
  Φ t := match t with
    | ⟨0, _⟩ => Φ₀ m d
    | ⟨_ + 1, _⟩ => Φ₁ d
  q _ := fullShare
  owed t := match t with
    | ⟨0, _⟩ => O₀ d
    | ⟨_ + 1, _⟩ => 0

theorem wins (Φ : Fin cfg0.W → sProp 𝕄) : bigSep Finset.univ Φ = iprop(Φ (0 : Fin 3) ∗ Φ (1 : Fin 3) ∗ Φ (2 : Fin 3)) := bigSep_W0 Φ

/-- The blocks the body finds staged. -/
theorem before_a (d : Dev nD) (X) : (dats m ρ 0 d).before (0 : Fin 3) t0_0 X = aV m d := by
  unfold Dat.before; rw [if_pos (fetch0_0 t0_0)]; rfl
theorem before_b (d : Dev nD) (X) : (dats m ρ 0 d).before (1 : Fin 3) t0_0 X = bV m d := by
  unfold Dat.before; rw [if_pos (fetch0_1 t0_0)]; rfl

set_option maxRecDepth 20000 in
/-- The pipeline's obligation for the body, on every device. -/
theorem body_obligation (d : Dev nD) : BodyObligation (dats (F := F) m ρ 0 d) (defs₀ (F := F)) 𝒱₀ () Set.univ := fun t => by
  rw [fin_N0 t]
  rw [wins, wins]
  have hb : iprop(Φ₀ m d ∗ (dats m ρ 0 d).owesAt () (t0_0 : Fin cfg0.N).castSucc
        ∗ (∃ X, owns (d : Thread nD τ) mA fullShare ((dats m ρ 0 d).before (0 : Fin 3) t0_0 X))
        ∗ (∃ X, owns (d : Thread nD τ) mB fullShare ((dats m ρ 0 d).before (1 : Fin 3) t0_0 X))
        ∗ (∃ X, owns (d : Thread nD τ) mO fullShare ((dats m ρ 0 d).before (2 : Fin 3) t0_0 X)))
      ⊢ wp frame (wpE (defs₀ (F := F)) 𝒱₀ d none) Set.univ body (fun _ => iprop(Φ₁ d ∗ (dats m ρ 0 d).owesAt () (t0_0 : Fin cfg0.N).succ
        ∗ owns (d : Thread nD τ) mA fullShare (aV m d) ∗ owns (d : Thread nD τ) mB fullShare (bV m d) ∗ owns (d : Thread nD τ) mO fullShare (outV m d))) := by
    simp only [before_a, before_b]
    unfold Φ₀ Φ₁ opening Dat.owesAt Pipeline.owesWithin
    iintro ⟨⟨⟨⟨%K, #Hr, Hlin⟩, Hc, #Hl⟩, Hb⟩, ⟨%W, %hW, HO⟩, ⟨%X0, HA⟩, ⟨%X1, HB⟩, %X2, HX⟩
    iapply (body_ok m K d) $$ [Hlin Hc Hb HO HA HB HX]
    · isplitr; · iexact Hr
      isplitr; · iexact Hl
      isplitl [Hlin]; · iexact Hlin
      isplitl [Hc]; · iexact Hc
      isplitl [Hb]; · iexact Hb
      isplitl [HO]; · unfold owing; iexists W; iexact HO
      isplitl [HA]; · iexact HA
      isplitl [HB]; · iexact HB
      iexists _; iexact HX
    iintro ⟨Hz, Hb, HO, HA, HB, HX⟩
    isplitl [Hz Hb]
    · isplitl [Hz] <;> iassumption
    isplitl [HO]
    · unfold owing
      icases HO with ⟨%W', HO⟩
      iexists W'
      isplitr; · ipureintro; exact fun _ _ => Or.inl trivial
      iexact HO
    isplitl [HA]; · iexact HA
    isplitl [HB]; · iexact HB
    iexact HX
  exact hb

/-! ## The resources dealt -/

/-- The kernel's own scoped semaphores: the transfers'. -/
abbrev osem (k : Bool × Bool × Fin 8) : SemLoc sig := csem (some k)

set_option maxRecDepth 20000 in
theorem osem_scoped : ∀ (a b : Bool) (c : Fin 8), (osem (a, b, c)).isScoped .tc = true := by decide
theorem ownSemFacts : Pipeline.OwnSemFacts cfg0.spec osem where
  isScoped k := osem_scoped k.1 k.2.1 k.2.2
  inj k k' h := by
    have e : some (some k) = some (some k') := by rw [← dec_csem (some k), ← dec_csem (some k')]; exact congrArg dec h
    exact Option.some.inj (Option.some.inj e)
  disj k w s h := by
    have e : dec (osem k) = dec (.dma ((cfg0.spec w).sem s)) := congrArg dec h
    rw [show dec (osem k) = some (some k) from dec_csem (some k)] at e
    have hn : ∀ (w : Fin 3) (s : Fin (spec0 w).nbuf), dec (.dma ((spec0 w).sem s)) = none := by decide
    rw [show dec (.dma ((cfg0.spec w).sem s)) = none from hn w s] at e
    cases e

theorem share_eq (d : Dev nD) (w : Fin cfg0.W) : (dats m ρ 0 d).share w = fullShare := by unfold Dat.share; split <;> rfl

def cells : Finset (GSem nD τ sig) := Finset.univ.map ⟨kcell, kcell_injective⟩

/-- The duties of a device's cells: the barrier's two, and each transfer cell's one. -/
abbrev Tk : Type := Bool ⊕ (Bool × Bool × Fin 8)
abbrev tkCell : Tk → Kk | .inl _ => none | .inr k => some k
abbrev tkDuty : Tk → Bool | .inl b => b | .inr _ => false
abbrev tokOf (dt : Dev nD × Tk) : GSem nD τ sig × ℕ × Bool := (kcell (dt.1, tkCell dt.2), 0, tkDuty dt.2)
theorem tokOf_injective : Function.Injective tokOf := by
  rintro ⟨d, t⟩ ⟨d', t'⟩ h
  have h1 := kcell_injective (congrArg Prod.fst h)
  have h2 : tkDuty t = tkDuty t' := congrArg (fun x : GSem nD τ sig × ℕ × Bool => x.2.2) h
  have hd : d = d' := congrArg Prod.fst h1
  have hk : tkCell t = tkCell t' := congrArg Prod.snd h1
  subst hd
  rcases t with b | k <;> rcases t' with b' | k'
  · exact congrArg (fun b => (d, Sum.inl b)) h2
  · cases hk
  · cases hk
  · exact congrArg (fun k => (d, Sum.inr k)) (Option.some.inj hk)
def tokens : Finset (GSem nD τ sig × ℕ × Bool) := Finset.univ.map ⟨tokOf, tokOf_injective⟩

def u₀ : UU := (initOf (Pipeline.cells cfgs cellOf_inj) (Pipeline.launchToks cfgs cellOf_inj), initOf cells tokens)

/-- The tokens of a device's own cells' duties. -/
def toks (d : Dev nD) : sProp 𝕄 :=
  iprop((bigSep Finset.univ fun b : Bool => dutyTok ER (barCell d) 0 b)
    ∗ bigSep Finset.univ fun a : Bool => bigSep Finset.univ fun c : Fin 8 =>
        iprop(dutyTok ER (sndCell d a c) 0 false ∗ dutyTok ER (rcvCell d a c) 0 false))
/-- The tokens of the duties it pays. -/
def payToks (d : Dev nD) : sProp 𝕄 :=
  iprop((bigSep Finset.univ fun b : Bool => dutyTok ER (barCell (peer d b)) 0 b)
    ∗ bigSep Finset.univ fun a : Bool => bigSep Finset.univ fun c : Fin 8 =>
        iprop(dutyTok ER (sndCell d a c) 0 false ∗ dutyTok ER (rcvCell (peer d a) a c) 0 false))

/-- What the launch deals device `d`, and what the devices' common step makes of it. -/
def G (d : Dev nD) : sProp 𝕄 :=
  iprop((bigSep Finset.univ fun k : Kk => roundState ER (Rd m) (kcell (d, k)) 0)
    ∗ (bigSep Finset.univ fun k : Kk => iprop(atPos ER (kcell (d, k)) 0 ∅ 0 ∗ reached ER (kcell (d, k)) 0)) ∗ toks d)
def G' (d : Dev nD) : sProp 𝕄 := iprop(∃ K, recs m K ∗ linear d)

theorem toks_eq (d : Dev nD) : (bigSep Finset.univ fun t : Tk => (dutyTok ER (tokOf (d, t)).1 (tokOf (d, t)).2.1 (tokOf (d, t)).2.2 : sProp 𝕄)) = toks d := by
  unfold toks
  rw [bigSep_univ_sum, moves_split]; rfl

theorem fund_cells : BI.own (ER (initOf cells tokens)) ⊢ (|==> bigSep Finset.univ (G m) : sProp 𝕄) := by
  have hX (Φ : GSem nD τ sig → sProp 𝕄) : bigSep cells Φ = bigSep Finset.univ fun d : Dev nD => bigSep Finset.univ fun k : Kk => Φ (kcell (d, k)) := by
    unfold cells; rw [bigSep_map, bigSep_univ_prod]; rfl
  have hT : bigSep tokens (fun x => (dutyTok ER x.1 x.2.1 x.2.2 : sProp 𝕄)) = bigSep Finset.univ fun d : Dev nD => toks d := by
    unfold tokens; rw [bigSep_map, bigSep_univ_prod]
    exact bigSep_congr fun d _ => toks_eq d
  iintro HX
  imod (Rounds.fund ER (Rd m) cells tokens) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier is the launch's one unscoped semaphore, -/
theorem unscoped_eq (d : Dev nD) : (unscopedSems0 d : sProp 𝕄) = semVal (kcell (d, none)) 0 := by
  unfold unscopedSems0; rw [bigSep_eq_bigSepL_of_eq [SemLoc.reg barSem] (by decide) (by decide)]; rfl
/-- and with it the kernel's own semaphores are all of a device's cells. -/
theorem sems_eq (d : Dev nD) :
    (bigSep Finset.univ fun k : Kk => (semVal (kcell (d, k)) 0 : sProp 𝕄))
      = iprop(unscopedSems0 d ∗ Pipeline.ownSems0 (Ix := Unit) (Name := ℕ) (U := UU) (Lvl := ℕ) (Val := Elt F) (τ := τ) osem d) := by
  rw [cells_some, unscoped_eq]; rfl

theorem alloc_cells (d : Dev nD) :
    iprop(Pipeline.ownSems0 (Ix := Unit) (Name := ℕ) (U := UU) (Lvl := ℕ) (Val := Elt F) (τ := τ) osem d ∗ unscopedSems0 d ∗ G m d)
      ⊢ |={Set.univ}=> iprop((bigSep Finset.univ fun k : Kk => iprop(∃ κ : ℕ, cellInv ER (Rd m) κ (kcell (d, k))))
          ∗ (bigSep Finset.univ fun k : Kk => iprop(atPos ER (kcell (d, k)) 0 ∅ 0 ∗ reached ER (kcell (d, k)) 0)) ∗ toks d) := by
  unfold G
  iintro ⟨Hos, Hus, Hst, Hat, Htok⟩
  ihave Hv := (Entails.of_eq (sems_eq (F := F) d).symm) $$ [Hos Hus]
  · isplitl [Hus] <;> iassumption
  imod (show iprop((bigSep Finset.univ fun k : Kk => semVal (kcell (d, k)) 0) ∗ bigSep Finset.univ fun k : Kk => roundState ER (Rd m) (kcell (d, k)) 0)
      ⊢ (|={Set.univ}=> bigSep Finset.univ fun k : Kk => iprop(∃ κ : ℕ, cellInv ER (Rd m) κ (kcell (d, k))) : sProp 𝕄) from by
        rw [← bigSep_sep']
        exact (bigSep_mono fun k _ => (Rounds.body_intro ER (Rd m) (kcell (d, k))).trans inv_alloc).trans (bigSep_fupd _ _)) $$ [Hv Hst] with Hinv
  · isplitl [Hv] <;> iassumption
  imodintro
  isplitl [Hinv]; · iexact Hinv
  isplitl [Hat]; · iexact Hat
  iexact Htok

/-- A family over devices and directions, read at the neighbours instead. -/
theorem around (X : Dev nD → Bool → sProp 𝕄) :
    (bigSep Finset.univ fun d : Dev nD => bigSep Finset.univ fun a : Bool => X d a)
      = bigSep Finset.univ fun d : Dev nD => bigSep Finset.univ fun a : Bool => X (peer d a) a := by
  rw [bigSep_univ_comm, bigSep_univ_comm fun (d : Dev nD) (a : Bool) => X (peer d a) a]
  exact bigSep_congr fun a _ => bigSep_univ_equiv (swap a) fun d => X d a

/-- The tokens handed to the devices that pay them. -/
theorem toks_around : (bigSep Finset.univ fun d : Dev nD => (toks d : sProp 𝕄)) ⊢ bigSep Finset.univ fun d : Dev nD => payToks d := by
  unfold toks payToks
  simp only [bigSep_sep']
  rw [around fun d b => (dutyTok ER (barCell d) 0 b : sProp 𝕄),
    around fun d a => (bigSep Finset.univ fun c : Fin 8 => dutyTok ER (rcvCell d a c) 0 false : sProp 𝕄)]

/-- A device's positions and the tokens it pays are its part of the protocol. -/
theorem linear_intro (d : Dev nD) :
    iprop((bigSep Finset.univ fun k : Kk => atPos ER (kcell (d, k)) 0 ∅ 0) ∗ payToks d) ⊢ (linear d : sProp 𝕄) := by
  unfold payToks linear Kit
  rw [cells_split]
  simp only [bigSep_sep']
  iintro ⟨⟨Hb, Hs, Hr⟩, Ht, Hts, Htr⟩
  isplitl [Hb]; · iexact Hb
  isplitl [Ht]; · iexact Ht
  isplitl [Hts]; · iexact Hts
  isplitl [Htr]; · iexact Htr
  isplitl [Hs]; · iexact Hs
  iexact Hr

theorem regroup :
    (bigSep Finset.univ fun d : Dev nD => iprop((bigSep Finset.univ fun k : Kk => iprop(∃ κ : ℕ, cellInv ER (Rd m) κ (kcell (d, k))))
          ∗ (bigSep Finset.univ fun k : Kk => iprop(atPos ER (kcell (d, k)) 0 ∅ 0 ∗ reached ER (kcell (d, k)) 0)) ∗ toks d) : sProp 𝕄)
      ⊢ bigSep Finset.univ (G' m) := by
  rw [bigSep_sep', bigSep_sep', ← bigSep_univ_prod (fun dk : Dev nD × Kk => iprop(∃ κ : ℕ, cellInv ER (Rd m) κ (kcell dk))),
    bigSep_congr (s := Finset.univ) (fun (d : Dev nD) _ => bigSep_sep' Finset.univ (fun k : Kk => (atPos ER (kcell (d, k)) 0 ∅ 0 : sProp 𝕄)) (fun k => reached ER (kcell (d, k)) 0)),
    bigSep_sep', ← bigSep_univ_prod (fun dk : Dev nD × Kk => (reached ER (kcell dk) 0 : sProp 𝕄))]
  iintro ⟨HI, ⟨Hat, #HR⟩, Htok⟩
  ihave HK := (BI.bigSep_exists_pi Finset.univ (fun (dk : Dev nD × Kk) (κ : ℕ) => (cellInv ER (Rd m) κ (kcell dk) : sProp 𝕄))) $$ HI
  icases HK with ⟨%K, #HI⟩
  ihave Htk := (toks_around (F := F)) $$ Htok
  iapply (family_with (R := recs m K) fun d _ => show iprop(recs m K ∗ linear d) ⊢ G' m d from exists_intro (Φ := fun K => iprop(recs m K ∗ linear d)) K)
  isplitr
  · unfold recs; isplitl; · iexact HI
    iexact HR
  · iapply ((Entails.of_eq (bigSep_sep' Finset.univ (fun d : Dev nD => bigSep Finset.univ fun k : Kk => (atPos ER (kcell (d, k)) 0 ∅ 0 : sProp 𝕄)) payToks).symm).trans
      (bigSep_mono fun d _ => linear_intro d))
    isplitl [Hat]; · iexact Hat
    iexact Htk

/-- The devices' common step. -/
theorem glob : (bigSep Finset.univ fun d => iprop(Pipeline.ownSems0 (Ix := Unit) (Name := ℕ) (U := UU) (Lvl := ℕ) (Val := Elt F) (τ := τ) osem d ∗ unscopedSems0 d ∗ G m d) : sProp 𝕄)
    ⊢ |={Set.univ}=> bigSep Finset.univ (G' m) :=
  ((bigSep_mono fun d _ => alloc_cells m d).trans (bigSep_fupd _ _)).trans (BI.fupd_mono (regroup m))

/-! ## The credits at launch -/

theorem bar_iff {d d' : Dev nD} : barCell d = barCell d' ↔ d = d' :=
  ⟨fun h => congrArg Prod.fst (kcell_injective (a₁ := (d, none)) (a₂ := (d', none)) h), fun h => h ▸ rfl⟩
theorem bar_ne_rcv (d d' : Dev nD) (a : Bool) (c : Fin 8) : barCell d ≠ rcvCell d' a c := fun h => by
  have := congrArg Prod.snd (kcell_injective (a₁ := (d, none)) (a₂ := (d', some (a, true, c))) h); cases this
theorem rcv_iff {d d' : Dev nD} {a a' : Bool} {c c' : Fin 8} : rcvCell d a c = rcvCell d' a' c' ↔ d = d' ∧ a = a' ∧ c = c' := by
  constructor
  · intro h
    have h := kcell_injective (a₁ := (d, some (a, true, c))) (a₂ := (d', some (a', true, c'))) h
    obtain ⟨h1, h2⟩ := Prod.mk.inj h
    obtain ⟨h3, h4⟩ := Prod.mk.inj (Option.some.inj h2)
    exact ⟨h1, h3, (Prod.mk.inj h4).2⟩
  · rintro ⟨rfl, rfl, rfl⟩; rfl

theorem peer_iff {d d' : Dev nD} {a : Bool} : d = peer d' a ↔ d' = peer d a :=
  ⟨fun h => by rw [h, peer_peer], fun h => by rw [h, peer_peer]⟩

/-- What device `d'` owes device `d`'s barrier at launch, and its arrivals. -/
theorem owed_bar (d' d : Dev nD) : O₀ d' (barCell d) () = (if d' = peer d true then 1 else 0) + (if d' = peer d false then 1 else 0) := by
  have h0 : debts d' (fun _ => 0) (barCell d) () = 0 := by
    by_contra h
    obtain ⟨c, ⟨_, hc⟩ | ⟨_, hc⟩⟩ := debts_pos (Nat.pos_of_ne_zero h)
    · exact bar_ne_rcv _ _ _ _ hc
    · exact bar_ne_rcv _ _ _ _ hc
  unfold O₀ O₁
  rw [Pi.add_apply, Finsupp.add_apply, Pi.add_apply, Finsupp.add_apply, h0, tallyAt_apply, tallyAt_apply, Nat.zero_add]
  simp only [bar_iff, _root_.and_true, peer_iff (d := d)]

/-- Of all the arrivals at one device along one direction, the one at a given cell. -/
theorem sum_rcv (e d : Dev nD) (b a : Bool) (c : Fin 8) :
    (∑ x : Fin 8, (tallyAt (rcvCell e b x) () N : CellTallies nD τ sig Unit) (rcvCell d a c) ()) = if e = d ∧ b = a then N else 0 := by
  by_cases h : e = d ∧ b = a
  · obtain ⟨rfl, rfl⟩ := h
    rw [if_pos ⟨rfl, rfl⟩, Finset.sum_eq_single c, tallyAt_apply, if_pos ⟨rfl, rfl⟩]
    · intro x _ hx
      rw [tallyAt_apply, if_neg fun h => hx (rcv_iff.mp h.1).2.2.symm]
    · exact fun h => absurd (Finset.mem_univ _) h
  · rw [if_neg h]
    refine Finset.sum_eq_zero fun x _ => ?_
    rw [tallyAt_apply, if_neg fun h' => h ⟨(rcv_iff.mp h'.1).1.symm, (rcv_iff.mp h'.1).2.1.symm⟩]

theorem owed_rcv (d' d : Dev nD) (a : Bool) (c : Fin 8) : O₀ d' (rcvCell d a c) () = if d' = peer d a then N else 0 := by
  unfold O₀ O₁
  rw [Pi.add_apply, Finsupp.add_apply, Pi.add_apply, Finsupp.add_apply, tallyAt_apply, tallyAt_apply,
    if_neg fun h => bar_ne_rcv _ _ _ _ h.1.symm, if_neg fun h => bar_ne_rcv _ _ _ _ h.1.symm, Nat.add_zero]
  unfold debts debt
  rw [Finset.sum_apply, Finsupp.finset_sum_apply]
  simp only [Nat.zero_lt_succ, if_true, Pi.add_apply, Finsupp.add_apply, Finset.sum_add_distrib]
  rw [sum_rcv, sum_rcv]
  have e (b : Bool) : peer d' b = d ↔ d' = peer d b := eq_comm.trans peer_iff
  cases a
  · rw [if_neg (c := peer d' true = d ∧ true = false) fun h => Bool.noConfusion h.2, Nat.add_zero]
    exact if_congr ⟨fun h => (e _).mp h.1, fun h => ⟨(e _).mpr h, rfl⟩⟩ rfl rfl
  · rw [if_neg (c := peer d' false = d ∧ false = true) fun h => Bool.noConfusion h.2, Nat.zero_add]
    exact if_congr ⟨fun h => (e _).mp h.1, fun h => ⟨(e _).mpr h, rfl⟩⟩ rfl rfl

theorem launch_bar (d : Dev nD) :
    tallyOn (barCell d) (launchCredit (Pipeline.owing O₀) 0 (barCell d)) = (tallyAt (barCell d) () 2 : CellTallies nD τ sig Unit) := by
  unfold tallyAt; refine congrArg _ (Finsupp.ext fun u => ?_); cases u
  rw [Pipeline.launchCredit_owing, Finsupp.single_eq_same, Finset.sum_congr rfl fun d' _ => owed_bar d' d, Finset.sum_add_distrib,
    Finset.sum_ite_eq' Finset.univ (peer d true) fun _ => 1, Finset.sum_ite_eq' Finset.univ (peer d false) fun _ => 1,
    if_pos (Finset.mem_univ _), if_pos (Finset.mem_univ _)]
theorem launch_rcv (d : Dev nD) (a : Bool) (c : Fin 8) :
    tallyOn (rcvCell d a c) (launchCredit (Pipeline.owing O₀) 0 (rcvCell d a c)) = (tallyAt (rcvCell d a c) () N : CellTallies nD τ sig Unit) := by
  unfold tallyAt; refine congrArg _ (Finsupp.ext fun u => ?_); cases u
  rw [Pipeline.launchCredit_owing, Finsupp.single_eq_same, Finset.sum_congr rfl fun d' _ => owed_rcv d' d a c,
    Finset.sum_ite_eq' Finset.univ (peer d a) fun _ => N, if_pos (Finset.mem_univ _)]

theorem csem_injective : Function.Injective csem := fun k k' h =>
  Option.some.inj (by rw [← dec_csem k, ← dec_csem k']; exact congrArg dec h)

theorem credits_intro (d : Dev nD) : (Pipeline.launchCred O₀ d : sProp 𝕄) ⊢ credits d := by
  unfold Pipeline.launchCred credits
  refine (bigSep_subset (Finset.subset_univ (Finset.univ.map ⟨csem, csem_injective⟩))).trans ?_
  rw [bigSep_map, cells_split]
  simp only [bigSep_sep']
  have h : (bigSep Finset.univ fun a : Bool => bigSep Finset.univ fun c : Fin 8 => (cred (tallyAt (rcvCell d a c) () N) : sProp 𝕄))
      = bigSep Finset.univ fun a : Bool => bigSep Finset.univ fun c : Fin 8 =>
          cred (tallyOn (rcvCell d a c) (launchCredit (Pipeline.owing O₀) 0 (rcvCell d a c))) :=
    bigSep_congr fun a _ => bigSep_congr fun c _ => by rw [launch_rcv]
  rw [← launch_bar, h]
  show (_ : sProp 𝕄) ⊢ _
  iintro ⟨H, -, Hr⟩
  isplitl [H]; · iexact H
  iexact Hr

/-! ## The run -/

/-- The scratch buffers as the launch names them. -/
theorem bufs_eq (d : Dev nD) : (Pipeline.scopedRest (Ix := Unit) (Name := ℕ) (U := UU) (Lvl := ℕ) (Val := Elt F) cfg0.spec d : sProp 𝕄) = bufs d := by
  rw [scopedRest0_eq]
  unfold bufs
  simp only [owns_whole]; rfl

theorem start_intro (d : Dev nD) :
    iprop(Pipeline.unscopedRestP Pipeline.Prefetch.none cfg0.spec d (fun b => m ((d : Thread nD τ).loc b)) ∗ levAts L lv
        ∗ Pipeline.launchCred O₀ d ∗ prngReg d (ρ d) ∗ G' m d)
      ⊢ |={Set.univ}=> iprop(opening m d ∗ emp) := by
  iintro ⟨-, Hlev, Hcr, -, HG⟩
  ihave Hc := (credits_intro (F := F) d) $$ Hcr
  imodintro
  unfold opening G'
  isplitl
  · isplitl [HG]; · iexact HG
    isplitl [Hc]; · iexact Hc
    iexact Hlev
  · iempintro

theorem phi0_intro (d : Dev nD) :
    iprop(opening m d ∗ Pipeline.prefHeld Pipeline.Prefetch.none d (fun _ => fullShare.right) (fun k => k.elim0) ∗ Pipeline.scopedRest cfg0.spec d)
      ⊢ (dats m ρ 0 d).Φ 0 := by
  rw [show (dats m ρ 0 d).Φ 0 = Φ₀ m d from rfl, bufs_eq]
  unfold Φ₀
  iintro ⟨Hs, -, Hr⟩
  isplitl [Hs]; · iexact Hs
  iexact Hr

theorem phi1_exit (d : Dev nD) :
    (dats m ρ 0 d).Φ (Fin.last cfg0.N) ⊢ iprop(unscopedSems0 d ∗ Pipeline.ownSems0 osem d ∗ Pipeline.scopedRest cfg0.spec d) := by
  rw [show (dats m ρ 0 d).Φ (Fin.last cfg0.N) = Φ₁ d from rfl, bufs_eq]
  unfold Φ₁
  rw [sems_eq]
  iintro ⟨⟨Hu, Ho⟩, Hb⟩
  isplitl [Hu]; · iexact Hu
  isplitl [Ho]; · iexact Ho
  iexact Hb

/-- The staging semaphores lie below everything owed. -/
theorem lv_stage (d : Dev nD) : ∀ (w : Fin 3) (s : Fin (spec0 w).nbuf), lv ((d : Thread nD τ), .dma ((spec0 w).sem s)) () = 0 := by
  have hn : ∀ (w : Fin 3) (s : Fin (spec0 w).nbuf), dec (.dma ((spec0 w).sem s)) = none := by decide
  intro w s; unfold lv; rw [hn w s]

theorem waits (d : Dev nD) : (levAts L lv : sProp 𝕄) ⊢ Pipeline.cellsWaits cfgs (dats m ρ) () 0 d :=
  Pipeline.cellsWaits_intro cfgs (dats m ρ) () 0 d fun w s t => by
    rcases t with ⟨_ | _, ht⟩
    · exact mayWait_launch d _ (lv_stage d w s)
    · show (levAts L lv : sProp 𝕄) ⊢ MayWait _ _ () 0
      rw [MayWait_zero]; iintro -; iempintro

/-- A window's array after the run. -/
def finalA (d : Dev nD) (w : Fin cfg0.W) : Buf (Elt F) ((cfg0.win w).arr.view.loc (d : Thread nD τ)) := (dats m ρ 0 d).arrAt w cfg0.N

def QC : PUnit × MemSt nD τ sig (Elt F) → Prop := fun r =>
  ∀ d : Dev nD, ∀ w : Fin cfg0.W, r.2.mem ((cfg0.win w).arr.view.loc (d : Thread nD τ)) = finalA m ρ d w

set_option maxRecDepth 8000 in
/-- From any memory with its counters at zero, every weakly fair execution of the program ends, each window's array at
    its final contents on every device and every semaphore at zero. -/
theorem run_main : θ_run defs (onTc (τ := τ) (main (F := F))) (begin₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := opening m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments' arrays hold what they held. -/
theorem finalA_a (d : Dev nD) : finalA m ρ d (0 : Fin 3) = m ((d : Thread nD τ).loc main_arg0) := (dats (F := F) m ρ 0 d).arrAt_in (0 : Fin 3) rfl _
theorem finalA_b (d : Dev nD) : finalA m ρ d (1 : Fin 3) = m ((d : Thread nD τ).loc main_arg1) := (dats (F := F) m ρ 0 d).arrAt_in (1 : Fin 3) rfl _

end Cert.KernelIdeal.MM

end
-- ==== Proof.Value.lean ====
/- What the kernel computes over the extended reals.

   A device's partial product at an entry of the result is a sum over its own half of the contraction. Its first
   neighbour's is the sum over the other half, at the same rows. Their sum, which is what the device keeps and what its
   second neighbour receives, is the entry of the whole product. -/
module

public import proofs.«01_k».proof.Proof.Launch
public import proofs.«01_k».proof.Proof.Gen.ReferenceIdeal.Run
public import Idealize.ShloMosaic.Lib.MatmulPlain
public import Idealize.ShloMosaic.Lib.StackMember
public import Idealize.ShloMosaic.Lib.Layout

@[expose] public section

noncomputable section

namespace Cert.KernelIdeal.MM

open Idealize.ShloMosaic Idealize.ShloMosaic.TcCoe
open Idealize.SL.Sem
open Idealize.ShloMosaic.Pipeline (Dat)
open Idealize.ShloMosaic.ValueIdx
open Cert.KernelIdeal.Gen
open scoped BigOperators

/-! ## The arrays, read whole -/

section AnyFloats
variable {F : FTy → Type} [FloatOps F]
variable (m : (ℓ : Loc nD τ sig) → Buf (Elt F) ℓ) (ρ : Dev nD → PrngReg)

/-- The staged block of a device's part of `A` is the whole of that part, -/
theorem aV_eq (d : Dev nD) : aV m d = m ((d : Thread nD τ).loc main_arg0) :=
  Memref.read_access_unit_zero (Elt F) main_arg0 (off := fun a => (win0_0.index (0 : Fin 1)) a * main_arg0.ty.shape.size a)
    (funext fun a => by fin_cases a <;> decide) (fun a => by fin_cases a <;> decide) _
/-- and that of `B` is the whole of its part. -/
theorem bV_eq (d : Dev nD) : bV m d = m ((d : Thread nD τ).loc main_arg1) :=
  Memref.read_access_unit_zero (Elt F) main_arg1 (off := fun a => (win0_1.index (0 : Fin 1)) a * main_arg1.ty.shape.size a)
    (funext fun a => by fin_cases a <;> decide) (fun a => by fin_cases a <;> decide) _

/-- The result's array ends at the value the body leaves. -/
theorem finalA_out (d : Dev nD) : finalA m ρ d (2 : Fin 3) = outV m d := by
  have hw : (win0_2.blk (0 : Fin 1)).view.read (Elt F) (finalA m ρ d (2 : Fin 3)) = outV m d := by
    unfold finalA
    rw [show cfg0.N = ((0 : Fin 1) : Fin cfg0.N).val + 1 from rfl, (dats m ρ 0 d).arrAt_succ (2 : Fin 3) (0 : Fin 1),
      if_pos (by decide)]
    exact View.read_write_univ _ _
  exact (Memref.read_access_unit_zero (Elt F) main_v1 (off := fun a => (win0_2.index (0 : Fin 1)) a * main_v1.ty.shape.size a)
    (funext fun a => by fin_cases a <;> decide) (fun a => by fin_cases a <;> decide) _).symm.trans hw

/-- From any memory with its counters at zero the program ends on every device, its arguments as they were and every
    counter at zero. -/
theorem run_frame : θ_run defs (onTc (τ := τ) (main (F := F))) ⟨m, fun _ => 0, ρ⟩ (fun r =>
    (∀ d : Dev nD, r.2.mem ((d : Thread nD τ).loc main_arg0) = m ((d : Thread nD τ).loc main_arg0)
      ∧ r.2.mem ((d : Thread nD τ).loc main_arg1) = m ((d : Thread nD τ).loc main_arg1)) ∧ r.2.sem = fun _ => 0) :=
  (θ_run defs _ _).mono
    (fun _ h => ⟨fun d => ⟨(h.1 d (0 : Fin 3)).trans (finalA_a m ρ d), (h.1 d (1 : Fin 3)).trans (finalA_b m ρ d)⟩, h.2⟩)
    (run_main m ρ)

end AnyFloats

/-! ## The partial products -/

variable (m : (ℓ : Loc nD τ sig) → Buf (Elt Ideal) ℓ) (ρ : Dev nD → PrngReg)

/-- Device `d`'s partial product at an entry of the result: the sum over its half of the contraction. -/
def part (d : Dev nD) (i j : Fin 768) : EReal := ∑ k : Fin 384, (aV m d (ix2 i k) : EReal) * (bV m d (ix2 k j) : EReal)

/-- An entry of the left operand of a chunk's product is an entry of the device's part of `A`. -/
theorem left_at (d : Dev nD) (c : Fin 8) (r : Fin 48) (k : Fin 384) (i : Fin 768) (hi : i.val = 384 * (d.val % 2) + 48 * c.val + r.val) :
    lV m d ((lchunk c).emb (ix2 r k)) = aV m d (ix2 i k) := by
  have h : lV m d = fun j => aV m d ((arows d).emb j) := by
    unfold lV k0_pay1
    simp only [shapeCast_self]; rfl
  rw [h]
  refine congrArg (aV m d) (funext fun a => Fin.ext ?_)
  have e := k0_off1_eq d
  have e0 : k0_off1 d 0 = 384 * (d.val % 2) := congrFun e 0
  have e1 : k0_off1 d 1 = 0 := congrFun e 1
  match a with
  | ⟨0, _⟩ => show k0_off1 d 0 + 1 * (48 * c.val + 1 * r.val) = i.val; omega
  | ⟨1, _⟩ => show k0_off1 d 1 + 1 * (0 + 1 * k.val) = k.val; omega

/-- A chunk's product, at an entry, is the partial product at that row of the result. -/
theorem chunk_at (d : Dev nD) (c : Fin 8) (r : Fin 48) (i j : Fin 768) (hi : i.val = 384 * (d.val % 2) + 48 * c.val + r.val) :
    k0_pay3 (F := Ideal) (fun j => lV m d ((lchunk c).emb j)) (rV m d) (ix2 r j) = part m d i j := by
  have hr : rV m d = bV m d := by
    unfold rV k0_pay2
    simp only [shapeCast_self]; rfl
  have hd : dot_S48x384_S384x768_S48x768_1_0_0_1_n_n = DotDims.plain 48 384 768 := rfl
  unfold k0_pay3
  simp only [matmul]
  rw [hd, hr]
  refine (Ideal.matmul_plain_apply none _ _ _ r j).trans ?_
  have hz : (constant (F := Ideal) S48x768 .f32 0x00000000#32 (ix2 r j) : EReal) = 0 := Ideal.ofBits_zero_f32
  refine (congrArg (· + _) hz).trans ((zero_add _).trans ?_)
  exact Finset.sum_congr rfl fun k _ => congrArg (· * _) (left_at m d c r k i hi)

theorem pV_at (d : Dev nD) (c : Fin 8) (r : Fin 48) (i j : Fin 768) (hi : i.val = 384 * (d.val % 2) + 48 * c.val + r.val) :
    pV m d c (ix2 r j) = part m d i j := by
  unfold pV k0_pay4
  rw [shapeCast_self]; exact chunk_at m d c r i j hi
theorem pB_at (d : Dev nD) (c : Fin 8) (r : Fin 48) (i j : Fin 768) (hi : i.val = 384 * (d.val % 2) + 48 * c.val + r.val) :
    pB m d c (ix2 r j) = part m d i j := by
  unfold pB k0_pay5
  rw [shapeCast_self]; exact chunk_at m d c r i j hi

/-- The first neighbour sums the same rows, the second one the other rows. -/
theorem peer_first (d : Dev nD) : (peer d false).val % 2 = d.val % 2 := by revert d; decide
theorem peer_second (d : Dev nD) : (peer d true).val % 2 = 1 - d.val % 2 := by revert d; decide

/-- The rows device `d` sums: its partial product and its first neighbour's. -/
theorem sV_at (d : Dev nD) (c : Fin 8) (r : Fin 48) (i j : Fin 768) (hi : i.val = 384 * (d.val % 2) + 48 * c.val + r.val) :
    (sV m d c (ix2 r j) : EReal) = part m d i j + part m (peer d false) i j := by
  have hp := peer_first d
  have e : (sV m d c (ix2 r j) : EReal) = (pV m d c (ix2 r j) : EReal) + (pB m (peer d false) c (ix2 r j) : EReal) := rfl
  rw [e, pV_at m d c r i j hi, pB_at m (peer d false) c r i j (by rw [hp]; exact hi)]

/-- The rows it receives: the same sums, made by its second neighbour. -/
theorem oV_at (d : Dev nD) (c : Fin 8) (r : Fin 48) (i j : Fin 768) (hi : i.val = (48 * c.val + 384) - 384 * (d.val % 2) + r.val) :
    (oV m d c (ix2 r j) : EReal) = part m (peer d true) i j + part m (peer (peer d true) false) i j := by
  have hp := peer_second d
  have e : oV m d c = sV m (peer d true) c := by
    unfold oV k0_pay45 sB k0_pay17
    simp only [shapeCast_self]; rfl
  rw [e]
  exact sV_at m (peer d true) c r i j (by rw [hp, hi]; omega)

/-- The value the body leaves, at any entry, is the sum of two neighbours' partial products. -/
theorem outV_at (d : Dev nD) (i j : Fin 768) :
    ∃ e : Dev nD, (outV m d (ix2 i j) : EReal) = part m e i j + part m (peer e false) i j := by
  have hm := outR_cover d ▸ Finset.mem_univ (ix2 i j : S768x768.Idx)
  obtain ⟨t, -, ht⟩ := Finset.mem_biUnion.mp hm
  obtain ⟨x, hx⟩ := (outR d t).exists_idx_of_mem ht
  have h0 : (outR d t).off 0 = row0 d t := congrFun (outR_off d t) 0
  have h1 : (outR d t).off 1 = 0 := congrFun (outR_off d t) 1
  have x0 : (outR d t).off 0 + 1 * (x 0).val = i.val := congrArg Fin.val (congrFun hx 0)
  have x1 : (outR d t).off 1 + 1 * (x 1).val = j.val := congrArg Fin.val (congrFun hx 1)
  have hj : (x 1 : Fin 768) = j := Fin.ext (show (x 1).val = j.val by omega)
  have hxx : x = ix2 (x 0 : Fin 48) j := (eq_ix2 (n0 := 48) (n1 := 768) x).trans (congrArg (ix2 (x 0 : Fin 48)) hj)
  rw [← hx]
  have hg := glue_emb (α := Elt Ideal .f32) (outR d) (outR_cover d) (outR_disj d) (fun t => match t with
    | (false, c) => sV m d c
    | (true, c) => oV m d c) t x
  obtain ⟨b, c⟩ := t
  cases b
  · refine ⟨d, (show (outV m d _ : EReal) = _ from hg).trans ?_⟩
    rw [hxx]
    refine sV_at m d c _ i j ?_
    simp only [row0] at h0
    show i.val = _ + (x 0).val
    omega
  · refine ⟨peer d true, (show (outV m d _ : EReal) = _ from hg).trans ?_⟩
    rw [hxx]
    refine oV_at m d c _ i j ?_
    simp only [row0] at h0
    show i.val = _ + (x 0).val
    omega

/-! ## The whole product -/

variable (A B : S768x768.Idx → EReal)

/-- Half of the contraction: the entry's sum over the `x`-th 384 positions. -/
def half (x : Fin 2) (i j : Fin 768) : EReal :=
  ∑ k : Fin 384, A (ix2 i (⟨384 * x.val + k.val, by omega⟩ : Fin 768)) * B (ix2 (⟨384 * x.val + k.val, by omega⟩ : Fin 768) j)

/-- The two halves make the whole contraction. -/
theorem halves (i j : Fin 768) : half A B 0 i j + half A B 1 i j = ∑ k : Fin 768, A (ix2 i k) * B (ix2 k j) := by
  have h := Fin.sum_univ_add (a := 384) (b := 384) (fun k : Fin 768 => A (ix2 i k) * B (ix2 k j))
  refine Eq.trans ?_ h.symm
  refine congrArg₂ (· + ·) (Finset.sum_congr rfl fun k _ => ?_) (Finset.sum_congr rfl fun k _ => ?_)
  · have e : (⟨384 * (0 : Fin 2).val + k.val, by have := k.isLt; show 384 * 0 + k.val < 768; omega⟩ : Fin 768) = Fin.castAdd 384 k :=
      Fin.ext (show 384 * 0 + k.val = k.val by omega)
    show A (ix2 i _) * B (ix2 _ j) = _
    rw [e]
  · have e : (⟨384 * (1 : Fin 2).val + k.val, by have := k.isLt; show 384 * 1 + k.val < 768; omega⟩ : Fin 768) = Fin.natAdd 384 k :=
      Fin.ext (show 384 * 1 + k.val = 384 + k.val by omega)
    show A (ix2 i _) * B (ix2 _ j) = _
    rw [e]

/-- The devices hold their blocks of `A` and `B`: the columns of `A` and the rows of `B` that the device's place along
    the first mesh axis names. -/
def Blocks : Prop := ∀ d : Dev nD,
  m ((d : Thread nD τ).loc main_arg0) = Layout.blockN ⟨2, ![768, 384]⟩ ⟨2, ![768, 768]⟩ (Layout.meshBlock [2, 2] ![[], [0]] d) A
  ∧ m ((d : Thread nD τ).loc main_arg1) = Layout.blockN ⟨2, ![384, 768]⟩ ⟨2, ![768, 768]⟩ (Layout.meshBlock [2, 2] ![[0], []] d) B

/-- Where the devices hold their blocks of `A` and `B`, a partial product is the half that the device's place along the
    first mesh axis names. -/
theorem part_eq (h : Blocks m A B) (d : Dev nD) (i j : Fin 768) :
    part m d i j = half A B ⟨d.val / 2, by have h : d.val < 4 := d.isLt; omega⟩ i j := by
  have hm0 : Layout.meshLin [2, 2] d.val [] = 0 := by revert d; decide
  have hm1 : Layout.meshLin [2, 2] d.val [0] = d.val / 2 := by revert d; decide
  unfold part half
  rw [aV_eq, bV_eq, (h d).1, (h d).2]
  refine Finset.sum_congr rfl fun k _ => congrArg₂ (· * ·) ?_ ?_
  · refine congrArg A (funext fun a => Fin.ext ?_)
    match a with
    | ⟨0, _⟩ => show Layout.meshLin [2, 2] d.val [] * 768 + i.val = i.val; omega
    | ⟨1, _⟩ => show Layout.meshLin [2, 2] d.val [0] * 384 + k.val = 384 * (d.val / 2) + k.val; omega
  · refine congrArg B (funext fun a => Fin.ext ?_)
    match a with
    | ⟨0, _⟩ => show Layout.meshLin [2, 2] d.val [0] * 384 + k.val = 384 * (d.val / 2) + k.val; omega
    | ⟨1, _⟩ => show Layout.meshLin [2, 2] d.val [] * 768 + j.val = j.val; omega

/-- Two neighbours along the first axis make the whole contraction, in either order. -/
theorem part_add (hAB : Blocks m A B) (d : Dev nD) (i j : Fin 768) :
    part m d i j + part m (peer d false) i j = ∑ k : Fin 768, A (ix2 i k) * B (ix2 k j) := by
  rw [part_eq m A B hAB, part_eq m A B hAB, ← halves]
  have h : (d.val / 2 = 0 ∧ (peer d false).val / 2 = 1) ∨ (d.val / 2 = 1 ∧ (peer d false).val / 2 = 0) := by revert d; decide
  rcases h with ⟨h, h'⟩ | ⟨h, h'⟩
  · exact congrArg₂ (fun x y => half A B x i j + half A B y i j) (Fin.ext h) (Fin.ext h')
  · rw [add_comm (half A B 0 i j)]
    exact congrArg₂ (fun x y => half A B x i j + half A B y i j) (Fin.ext h) (Fin.ext h')

/-- Every device's result is the product of the whole arrays. -/
theorem outV_eq (hAB : Blocks m A B) (d : Dev nD) : outV m d
    = Host.dotGeneral (F := Ideal) (φ₁ := .f32) (φ₂ := .f32) Cert.ReferenceIdeal.dot_S768x768_S768x768_S768x768_1_0_0_1_n_n none A B := by
  funext x
  obtain ⟨i, j, rfl⟩ : ∃ (i j : Fin 768), x = ix2 i j := ⟨x 0, x 1, eq_ix2 (n0 := 768) (n1 := 768) x⟩
  obtain ⟨e, he⟩ := outV_at m d i j
  have hd : Cert.ReferenceIdeal.dot_S768x768_S768x768_S768x768_1_0_0_1_n_n = DotDims.plain 768 768 768 := rfl
  rw [hd]
  exact (he.trans (part_add m A B hAB e i j)).trans (StackMember.dotGeneral_plain_apply (φ₁ := .f32) (φ₂ := .f32) none A B i j).symm

end Cert.KernelIdeal.MM

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Launch
public import proofs.«01_k».proof.Proof.Value
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem
open Cert.KernelIdeal.MM (run_main run_frame finalA_a finalA_b finalA_out outV_eq)

/-- The two printed programs have the same body table over the machine's floats: each label's body is the same text. -/
theorem bodies_same : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (_, _) => rfl
  | ⟨_ + 1, h⟩, _ => exact absurd h (Nat.not_lt.2 (Nat.le_add_left _ _))
theorem defs_same : Cert.Kernel.defs (F := Bits) = Cert.KernelIdeal.defs (F := Bits) := congrArg (Pipeline.defs _) bodies_same

/-- The kernel terminates on every device, leaves its arguments unchanged and every counter at zero. -/
theorem frame_kernel : Cert.quiescent_Kernel := fun m ρ _ => by
  rw [defs_same]
  exact run_frame (F := Bits) m ρ

/-- So does the kernel over the extended reals. -/
theorem frame_ideal : Cert.quiescent_KernelIdeal := fun m ρ _ => run_frame (F := Ideal) m ρ

/-- So does the reference, which has no counters. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

/-- Over the extended reals every device ends with the product of the whole arrays, as the reference does. -/
theorem values : Cert.algebraic_KernelIdeal_ReferenceIdeal := fun m g m' g' _ hag =>
  ⟨_, (θ_run Cert.KernelIdeal.defs _ _).mono
      (fun _ h c => ⟨(h.1 c (2 : Fin 3)).trans ((finalA_out m g c).trans (outV_eq m _ _ hag c)),
        (h.1 c (0 : Fin 3)).trans (finalA_a m g c), (h.1 c (1 : Fin 3)).trans (finalA_b m g c)⟩)
      (run_main m g),
    (θ_run Cert.ReferenceIdeal.defs _ _).mono (fun _ h => h 0) (Cert.ReferenceIdeal.Value.run m' g')⟩

theorem claim : Cert.Claim := ⟨Cert.Kernel.Gen.facts, Cert.KernelIdeal.Gen.facts, Cert.ReferenceIdeal.Gen.facts,
  frame_kernel, frame_ideal, frame_reference, trivial, values⟩

end Cert.Proof

end
